-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_queries_and_keys.lean ====
abbrev S1x16384x9216 : Shape := ⟨3, ![1, 16384, 9216]⟩
abbrev S1x16384x2560 : Shape := ⟨3, ![1, 16384, 2560]⟩
abbrev S_ : Shape := ⟨0, ![]⟩

class Facts : Prop where
  slices_S1x16384x9216_S1x16384x2560_0_0_3072 : S1x16384x9216.Slices ![0, 0, 3072] S1x16384x2560
  bcast_S_S1x16384x2560 : S_.BroadcastsInDim S1x16384x2560 (![] : Fin 0 → Fin S1x16384x2560.rank)

variable [Facts]

def fn {F : FTy → Type} [FloatOps F] (main_arg0 : FVec F S1x16384x9216 .f32) : IVec S1x16384x2560 1 :=
  let main_v0 : FVec F S1x16384x2560 .f32 := (extractStridedSlice S1x16384x2560 ![0, 0, 3072] · slices_S1x16384x9216_S1x16384x2560_0_0_3072) main_arg0
  let main_v1 : FVec F S1x16384x2560 .f32 := Host.absf main_v0
  let main_cst : FVec F S_ .f32 := constant S_ .f32 0x7F800000#32
  let main_v2 : FVec F S1x16384x2560 .f32 := broadcastInDim S1x16384x2560 ![] bcast_S_S1x16384x2560 main_cst
  let main_v3 : IVec S1x16384x2560 1 := cmpf .olt main_v1 main_v2
  main_v3
-- ==== Kernel.lean ====
abbrev S1x16384x9216 : Shape := ⟨3, ![1, 16384, 9216]⟩
abbrev S1x1x9216 : Shape := ⟨3, ![1, 1, 9216]⟩
abbrev S_ : Shape := ⟨0, ![]⟩
abbrev S1x16384x2048 : Shape := ⟨3, ![1, 16384, 2048]⟩
abbrev S1x2048x512 : Shape := ⟨3, ![1, 2048, 512]⟩
abbrev S1x2048x128 : Shape := ⟨3, ![1, 2048, 128]⟩
abbrev S256x256 : Shape := ⟨2, ![256, 256]⟩
abbrev S32x144x256 : Shape := ⟨3, ![32, 144, 256]⟩
abbrev S144x2048 : Shape := ⟨2, ![144, 2048]⟩
abbrev S16x2048 : Shape := ⟨2, ![16, 2048]⟩
abbrev S2048x128 : Shape := ⟨2, ![2048, 128]⟩
abbrev S128x2048 : Shape := ⟨2, ![128, 2048]⟩
abbrev S1x256x128 : Shape := ⟨3, ![1, 256, 128]⟩
abbrev S256x128 : Shape := ⟨2, ![256, 128]⟩
abbrev S2048x256 : Shape := ⟨2, ![2048, 256]⟩
abbrev S8x256 : Shape := ⟨2, ![8, 256]⟩
abbrev S256 : Shape := ⟨1, ![256]⟩
abbrev S1x256 : Shape := ⟨2, ![1, 256]⟩
abbrev S1x144x256 : Shape := ⟨3, ![1, 144, 256]⟩
abbrev S144x256 : Shape := ⟨2, ![144, 256]⟩
abbrev S128x256 : Shape := ⟨2, ![128, 256]⟩

abbrev nBuf : Space → Nat
  | .hbm => 22
  | .vmem => 11
  | .smem => 0
  | _ => 0

abbrev bufTy : (tb : Table) → Fin (tcTables nBuf tb) → BufTy
  | .hbm, ⟨0, _⟩ => ⟨S1x16384x9216, .f32⟩
  | .hbm, ⟨1, _⟩ => ⟨S1x1x9216, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i32⟩
  | .hbm, ⟨7, _⟩ => ⟨S1x1x9216, .i32⟩
  | .hbm, ⟨8, _⟩ => ⟨S1x1x9216, .i1⟩
  | .hbm, ⟨9, _⟩ => ⟨S_, .i32⟩
  | .hbm, ⟨10, _⟩ => ⟨S1x1x9216, .i32⟩
  | .hbm, ⟨11, _⟩ => ⟨S1x1x9216, .i1⟩
  | .hbm, ⟨12, _⟩ => ⟨S1x1x9216, .i1⟩
  | .hbm, ⟨13, _⟩ => ⟨S_, .f32⟩
  | .hbm, ⟨14, _⟩ => ⟨S_, .f32⟩
  | .hbm, ⟨15, _⟩ => ⟨S1x1x9216, .f32⟩
  | .hbm, ⟨16, _⟩ => ⟨S1x1x9216, .f32⟩
  | .hbm, ⟨17, _⟩ => ⟨S1x1x9216, .f32⟩
  | .hbm, ⟨18, _⟩ => ⟨S1x16384x9216, .f32⟩
  | .hbm, ⟨19, _⟩ => ⟨S1x16384x9216, .f32⟩
  | .hbm, ⟨20, _⟩ => ⟨S1x16384x9216, .bf16⟩
  | .hbm, ⟨21, _⟩ => ⟨S1x16384x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S256x256, .f32⟩
  | .local _ .vmem, ⟨9, _⟩ => ⟨S32x144x256, .f32⟩
  | .local _ .vmem, ⟨10, _⟩ => ⟨S144x2048, .bf16⟩
  | _, _ => ⟨S1x16384x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 8, 8], ![false, false, false, false]⟩

def k0_cond2 (i : grid0.Coords) : BitVec 1 :=
  let arg3 : BitVec 32 := BitVec.ofNat 32 (i 3).val
  let c7_i32 : BitVec 32 := 7#32
  let v910 : BitVec 1 := Scalar.cmpi .eq arg3 c7_i32
  let v911 : BitVec 32 := Scalar.extui v910
  let c0_i32_454 : BitVec 32 := 0#32
  let v912 : BitVec 1 := Scalar.cmpi .ne v911 c0_i32_454
  v912

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c40_i32 : BitVec 32 := 40#32
  let v0 : BitVec 32 := Scalar.addi c40_i32 arg1
  let c0_i32 : BitVec 32 := 0#32
  ![arg0.toNat, arg3.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c44_i32 : BitVec 32 := 44#32
  let v0 : BitVec 32 := Scalar.addi c44_i32 arg1
  let c0_i32 : BitVec 32 := 0#32
  ![arg0.toNat, arg3.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S1x16384x9216 : Shape := ⟨3, ![1, 16384, 9216]⟩
abbrev S1x16384x2048 : Shape := ⟨3, ![1, 16384, 2048]⟩
abbrev S1x16384x4x4x128 : Shape := ⟨5, ![1, 16384, 4, 4, 128]⟩
abbrev S1x16384x512 : Shape := ⟨3, ![1, 16384, 512]⟩
abbrev S1x16384x4x128 : Shape := ⟨4, ![1, 16384, 4, 128]⟩
abbrev S1x4x16384x16384x4 : Shape := ⟨5, ![1, 4, 16384, 16384, 4]⟩
abbrev S1x4x4x16384x16384 : Shape := ⟨5, ![1, 4, 4, 16384, 16384]⟩
abbrev S_ : Shape := ⟨0, ![]⟩
abbrev S1x4x4x16384 : Shape := ⟨4, ![1, 4, 4, 16384]⟩
abbrev S1x4x4x16384x1 : Shape := ⟨5, ![1, 4, 4, 16384, 1]⟩
abbrev S1x4x128x4x16384 : Shape := ⟨5, ![1, 4, 128, 4, 16384]⟩

abbrev nBuf : Space → Nat
  | .hbm => 30
  | .vmem => 0
  | .smem => 0
  | _ => 0

abbrev bufTy : (tb : Table) → Fin (tcTables nBuf tb) → BufTy
  | .hbm, ⟨0, _⟩ => ⟨S1x16384x9216, .f32⟩
  | .hbm, ⟨1, _⟩ => ⟨S1x16384x2048, .f32⟩
  | .hbm, ⟨2, _⟩ => ⟨S1x16384x4x4x128, .f32⟩
  | .hbm, ⟨3, _⟩ => ⟨S1x16384x512, .f32⟩
  | .hbm, ⟨4, _⟩ => ⟨S1x16384x4x128, .f32⟩
  | .hbm, ⟨5, _⟩ => ⟨S1x16384x512, .f32⟩
  | .hbm, ⟨6, _⟩ => ⟨S1x16384x4x128, .f32⟩
  | .hbm, ⟨7, _⟩ => ⟨S1x4x16384x16384x4, .f32⟩
  | .hbm, ⟨8, _⟩ => ⟨S1x4x4x16384x16384, .f32⟩
  | .hbm, ⟨9, _⟩ => ⟨S_, .f32⟩
  | .hbm, ⟨10, _⟩ => ⟨S1x4x4x16384x16384, .f32⟩
  | .hbm, ⟨11, _⟩ => ⟨S1x4x4x16384x16384, .f32⟩
  | .hbm, ⟨12, _⟩ => ⟨S_, .f32⟩
  | .hbm, ⟨13, _⟩ => ⟨S1x4x4x16384, .f32⟩
  | .hbm, ⟨14, _⟩ => ⟨S_, .f32⟩
  | .hbm, ⟨15, _⟩ => ⟨S1x4x4x16384, .f32⟩
  | .hbm, ⟨16, _⟩ => ⟨S1x4x4x16384, .f32⟩
  | .hbm, ⟨17, _⟩ => ⟨S1x4x4x16384x1, .f32⟩
  | .hbm, ⟨18, _⟩ => ⟨S1x4x4x16384x16384, .f32⟩
  | .hbm, ⟨19, _⟩ => ⟨S1x4x4x16384x16384, .f32⟩
  | .hbm, ⟨20, _⟩ => ⟨S1x4x4x16384x16384, .f32⟩
  | .hbm, ⟨21, _⟩ => ⟨S_, .f32⟩
  | .hbm, ⟨22, _⟩ => ⟨S1x4x4x16384, .f32⟩
  | .hbm, ⟨23, _⟩ => ⟨S1x4x4x16384x1, .f32⟩
  | .hbm, ⟨24, _⟩ => ⟨S1x4x4x16384x16384, .f32⟩
  | .hbm, ⟨25, _⟩ => ⟨S1x4x4x16384x16384, .f32⟩
  | .hbm, ⟨26, _⟩ => ⟨S1x4x128x4x16384, .f32⟩
  | .hbm, ⟨27, _⟩ => ⟨S1x16384x4x4x128, .f32⟩
  | .hbm, ⟨28, _⟩ => ⟨S1x16384x2048, .f32⟩
  | .hbm, ⟨29, _⟩ => ⟨S1x16384x2048, .bf16⟩
  | _, _ => ⟨S1x16384x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel2.lean ====
abbrev S16384x4096 : Shape := ⟨2, ![16384, 4096]⟩
abbrev S4096x11008 : Shape := ⟨2, ![4096, 11008]⟩
abbrev S4096x43x256 : Shape := ⟨3, ![4096, 43, 256]⟩
abbrev S43x4096x256 : Shape := ⟨3, ![43, 4096, 256]⟩
abbrev S16384x11008 : Shape := ⟨2, ![16384, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 11
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S16384x4096, .bf16⟩
  | .hbm, ⟨4, _⟩ => ⟨S4096x43x256, .f32⟩
  | .hbm, ⟨5, _⟩ => ⟨S43x4096x256, .f32⟩
  | .hbm, ⟨6, _⟩ => ⟨S43x4096x256, .bf16⟩
  | .hbm, ⟨7, _⟩ => ⟨S4096x43x256, .f32⟩
  | .hbm, ⟨8, _⟩ => ⟨S43x4096x256, .f32⟩
  | .hbm, ⟨9, _⟩ => ⟨S43x4096x256, .bf16⟩
  | .hbm, ⟨10, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1024x256, .bf16⟩
  | .local _ .vmem, ⟨7, _⟩ => ⟨S1024x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x11008 : Shape := ⟨2, ![4096, 11008]⟩
abbrev S16384x11008 : Shape := ⟨2, ![16384, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S16384x11008, .f32⟩
  | .hbm, ⟨4, _⟩ => ⟨S16384x11008, .f32⟩
  | .hbm, ⟨5, _⟩ => ⟨S16384x11008, .f32⟩
  | .hbm, ⟨6, _⟩ => ⟨S_, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S16384x11008 : Shape := ⟨2, ![16384, 11008]⟩
abbrev S11008x4096 : Shape := ⟨2, ![11008, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S11008x16x256 : Shape := ⟨3, ![11008, 16, 256]⟩
abbrev S16x11008x256 : Shape := ⟨3, ![16, 11008, 256]⟩
abbrev S1x4096 : Shape := ⟨2, ![1, 4096]⟩
abbrev S512x11008 : Shape := ⟨2, ![512, 11008]⟩
abbrev S1x11008x256 : Shape := ⟨3, ![1, 11008, 256]⟩
abbrev S512x256 : Shape := ⟨2, ![512, 256]⟩
abbrev S512x128 : Shape := ⟨2, ![512, 128]⟩
abbrev S1x256 : Shape := ⟨2, ![1, 256]⟩
abbrev S11008x256 : Shape := ⟨2, ![11008, 256]⟩

abbrev nBuf : Space → Nat
  | .hbm => 33
  | .vmem => 16
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x128, .f32⟩
  | .hbm, ⟨25, _⟩ => ⟨S16384x128, .f32⟩
  | .hbm, ⟨26, _⟩ => ⟨S16384x11008, .bf16⟩
  | .hbm, ⟨27, _⟩ => ⟨S11008x16x256, .f32⟩
  | .hbm, ⟨28, _⟩ => ⟨S16x11008x256, .f32⟩
  | .hbm, ⟨29, _⟩ => ⟨S16x11008x256, .bf16⟩
  | .hbm, ⟨30, _⟩ => ⟨S1x4096, .f32⟩
  | .hbm, ⟨31, _⟩ => ⟨S1x4096, .f32⟩
  | .hbm, ⟨32, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x256, .bf16⟩
  | .local _ .vmem, ⟨3, _⟩ => ⟨S1x11008x256, .bf16⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S512x256, .f32⟩
  | .local _ .vmem, ⟨15, _⟩ => ⟨S512x256, .f32⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x11008 : Shape := ⟨2, ![16384, 11008]⟩
abbrev S11008x4096 : Shape := ⟨2, ![11008, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S11008x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S4096 : Shape := ⟨1, ![4096]⟩
abbrev S4096x4096 : Shape := ⟨2, ![4096, 4096]⟩
abbrev S16384x4096 : Shape := ⟨2, ![16384, 4096]⟩
abbrev S4096x8x512 : Shape := ⟨3, ![4096, 8, 512]⟩
abbrev S8x4096x512 : Shape := ⟨3, ![8, 4096, 512]⟩
abbrev S1x4096 : Shape := ⟨2, ![1, 4096]⟩
abbrev S1024x1024 : Shape := ⟨2, ![1024, 1024]⟩
abbrev S1024x2048 : Shape := ⟨2, ![1024, 2048]⟩
abbrev S1x4096x512 : Shape := ⟨3, ![1, 4096, 512]⟩
abbrev S1024x512 : Shape := ⟨2, ![1024, 512]⟩
abbrev S1024x4096 : Shape := ⟨2, ![1024, 4096]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S1x2048 : Shape := ⟨2, ![1, 2048]⟩
abbrev S4096x512 : Shape := ⟨2, ![4096, 512]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S4096, .f32⟩
  | .hbm, ⟨4, _⟩ => ⟨S4096x4096, .f32⟩
  | .hbm, ⟨5, _⟩ => ⟨S16384x4096, .f32⟩
  | .hbm, ⟨6, _⟩ => ⟨S16384x1024, .bf16⟩
  | .hbm, ⟨7, _⟩ => ⟨S16384x2048, .bf16⟩
  | .hbm, ⟨8, _⟩ => ⟨S16384x1024, .bf16⟩
  | .hbm, ⟨9, _⟩ => ⟨S4096x8x512, .f32⟩
  | .hbm, ⟨10, _⟩ => ⟨S8x4096x512, .f32⟩
  | .hbm, ⟨11, _⟩ => ⟨S8x4096x512, .bf16⟩
  | .hbm, ⟨12, _⟩ => ⟨S1x4096, .f32⟩
  | .hbm, ⟨13, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x4096, .f32⟩
  | .local _ .vmem, ⟨7, _⟩ => ⟨S1x4096x512, .bf16⟩
  | .local _ .vmem, ⟨8, _⟩ => ⟨S1x4096x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16384x1024 : Shape := ⟨2, ![16384, 1024]⟩
abbrev S16384x2048 : Shape := ⟨2, ![16384, 2048]⟩
abbrev S4096 : Shape := ⟨1, ![4096]⟩
abbrev S4096x4096 : Shape := ⟨2, ![4096, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S4096, .f32⟩
  | .hbm, ⟨4, _⟩ => ⟨S4096x4096, .f32⟩
  | .hbm, ⟨5, _⟩ => ⟨S16384x4096, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x4096, .f32⟩
  | .hbm, ⟨46, _⟩ => ⟨S1x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .bf16⟩
  | .hbm, ⟨6, _⟩ => ⟨S16384x128, .f32⟩
  | .hbm, ⟨7, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S1x4096, .f32⟩
  | .hbm, ⟨45, _⟩ => ⟨S16384x4096, .f32⟩
  | .hbm, ⟨46, _⟩ => ⟨S16384x4096, .f32⟩
  | .hbm, ⟨47, _⟩ => ⟨S16384x4096, .bf16⟩
  | .hbm, ⟨48, _⟩ => ⟨S16384x128, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Chain.lean ====
/- One chain of the kernel's body: 256 query rows against 2048 keys, as functions of what the chain loads; and each
   function's value at an index, over the extended reals. -/
module

public import proofs.«01_k».proof.Proof.Gen.KernelIdeal
public import Idealize.ShloMosaic.Lib.Pointwise

@[expose] public section

set_option maxRecDepth 16384

noncomputable section

namespace Cert.KernelIdeal.Chain

open Cert.KernelIdeal Cert.KernelIdeal.Gen Idealize.ShloMosaic Idealize.SL.Sem

variable {F : FTy → Type} [FloatOps F]

/-- The transposed scores of a chain: keys along the rows, the chain's query rows along the columns. -/
def scores (k : FVec F S1x2048x128 .bf16) (q : FVec F S1x256x128 .bf16) : FVec F S2048x256 .f32 :=
  matmul dot_S2048x128_S256x128_S2048x256_1_1_0_0_n_n none (shapeCast S2048x128 k shapeCasts_S1x2048x128_S2048x128)
    (shapeCast S256x128 q shapeCasts_S1x256x128_S256x128) (constant S2048x256 .f32 0x00000000#32)

/-- The new running maximum of a chain, kept in eight equal rows. -/
def newMax (s : FVec F S2048x256 .f32) (mp : FVec F S8x256 .f32) : FVec F S8x256 .f32 :=
  maximumf mp (broadcastTo S8x256 (shapeCast S1x256 (multiReduction .maximumf [0] S256 s 0xFF800000#32
    reduces_S2048x256_S256 (.inl rfl) rfl) shapeCasts_S256_S1x256) broadcasts_S1x256_S8x256)

/-- The new accumulator of a chain: the old one rescaled, plus the values' rows weighted by the exponentials. -/
def newAcc (vx : FVec F S144x2048 .bf16) (s : FVec F S2048x256 .f32) (mp : FVec F S8x256 .f32)
    (ap : FVec F S1x144x256 .f32) : FVec F S1x144x256 .f32 :=
  shapeCast S1x144x256 (addf
    (mulf (broadcastTo S144x256 (extractStridedSlice S1x256 ![0, 0] (exp2 (subf mp (newMax s mp))) slices_S8x256_o0_0_S1x256)
        broadcasts_S1x256_S144x256) (shapeCast S144x256 ap shapeCasts_S1x144x256_S144x256))
    (matmul dot_S144x2048_S2048x256_S144x256_1_0_0_1_n_n none vx
      (truncf .bf16 (exp2 (subf s (broadcastTo S2048x256 (extractStridedSlice S1x256 ![0, 0] (newMax s mp)
        slices_S8x256_o0_0_S1x256) broadcasts_S1x256_S2048x256))) bitsLt_bf16_f32)
      (constant S144x256 .f32 0x00000000#32))) shapeCasts_S144x256_S1x144x256

/-- The chain's output rows from its final accumulator: each value row divided by the row of ones. -/
def outRows (a : FVec F S1x144x256 .f32) : FVec F S1x256x128 .bf16 :=
  shapeCast S1x256x128 (truncf .bf16 (transpose S256x128 [1, 0]
    (divf (extractStridedSlice S128x256 ![0, 0] (shapeCast S144x256 a shapeCasts_S1x144x256_S144x256) slices_S144x256_o0_0_S128x256)
      (broadcastTo S128x256 (extractStridedSlice S1x256 ![128, 0] (shapeCast S144x256 a shapeCasts_S1x144x256_S144x256)
        slices_S144x256_o128_0_S1x256) broadcasts_S1x256_S128x256)) transposes_S128x256_p1_0_S256x128) bitsLt_bf16_f32)
    shapeCasts_S256x128_S1x256x128

theorem scores_apply (k : FVec Ideal S1x2048x128 .bf16) (q : FVec Ideal S1x256x128 .bf16) (r : Fin 2048) (l : Fin 256) :
    scores k q (ix2 r l) = ∑ d : Fin 128, (k (ix3 0 r d) * q (ix3 0 l d) : EReal) := by
  pointwise [scores]

theorem newMax_apply (s : FVec Ideal S2048x256 .f32) (mp : FVec Ideal S8x256 .f32) (r : Fin 8) (l : Fin 256) :
    newMax s mp (ix2 r l) = max (mp (ix2 r l) : EReal) (Finset.univ.fold max (⊥ : EReal) fun k : Fin 2048 => s (ix2 k l)) := by
  pointwise [newMax]
  rw [show Ideal.ofBits .f32 0xFF800000#32 = (⊥ : EReal) by simp [Ideal.ofBits, Ideal.ieee]]

theorem newAcc_apply (vx : FVec Ideal S144x2048 .bf16) (s : FVec Ideal S2048x256 .f32) (mp : FVec Ideal S8x256 .f32)
    (ap : FVec Ideal S1x144x256 .f32) (d : Fin 144) (l : Fin 256) :
    newAcc vx s mp ap (ix3 0 d l) = (Ideal.exp2 (mp (ix2 0 l) - newMax s mp (ix2 0 l)) * ap (ix3 0 d l)
      + ∑ k : Fin 2048, vx (ix2 d k) * Ideal.exp2 (s (ix2 k l) - newMax s mp (ix2 0 l)) : EReal) := by
  pointwise [newAcc]
  rfl

theorem outRows_apply (a : FVec Ideal S1x144x256 .f32) (l : Fin 256) (d : Fin 128) :
    outRows a (ix3 0 l d) = Ideal.div (a (ix3 0 ⟨d.val, by omega⟩ l)) (a (ix3 0 128 l)) := by
  pointwise [outRows]

end Cert.KernelIdeal.Chain

end
-- ==== Proof.Step.lean ====
/- What one grid point leaves in the carried scratches and in the output block, case by case, as the chains' functions of
   what the point loads. -/
module

public import proofs.«01_k».proof.Proof.Chain
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Step

open Cert.KernelIdeal Cert.KernelIdeal.Gen Cert.KernelIdeal.Chain Idealize.ShloMosaic Idealize.SL.Sem Idealize.ShloMosaic.TcCoe

variable {F : FTy → Type} [FloatOps F]

/-- The query rows of chain `ch`: head `ch / 8` of the group, row block `ch % 8`. -/
def chainQ (x0 : Vec F S1x2048x512 .bf16) (ch : Fin 32) : Vec F S1x256x128 .bf16 :=
  View.ld x0 (Rect.unit (s := S1x2048x512) ![0, 256 * (ch.val % 8), 128 * (ch.val / 8)] S1x256x128.size (by
    have h := ch.isLt
    intro a
    match a with
    | ⟨0, _⟩ => show 0 + 1 ≤ 1; omega
    | ⟨1, _⟩ => show 256 * (ch.val % 8) + 256 ≤ 2048; omega
    | ⟨2, _⟩ => show 128 * (ch.val / 8) + 128 ≤ 512; omega))

theorem inbM (ch : Fin 32) : ∀ a, (![8 * ch.val, 0] : Fin 2 → ℕ) a + S8x256.size a ≤ S256x256.size a := by
  have h := ch.isLt
  intro a
  match a with
  | ⟨0, _⟩ => show 8 * ch.val + 8 ≤ 256; omega
  | ⟨1, _⟩ => show 0 + 256 ≤ 256; omega

theorem inbA (ch : Fin 32) : ∀ a, (![ch.val, 0, 0] : Fin 3 → ℕ) a + S1x144x256.size a ≤ S32x144x256.size a := by
  have h := ch.isLt
  intro a
  match a with
  | ⟨0, _⟩ => show ch.val + 1 ≤ 32; omega
  | ⟨1, _⟩ => show 0 + 144 ≤ 144; omega
  | ⟨2, _⟩ => show 0 + 256 ≤ 256; omega

theorem inbO (ch : Fin 32) : ∀ a, (![0, 256 * (ch.val % 8), 128 * (ch.val / 8)] : Fin 3 → ℕ) a + S1x256x128.size a ≤ S1x2048x512.size a := by
  have h := ch.isLt
  intro a
  match a with
  | ⟨0, _⟩ => show 0 + 1 ≤ 1; omega
  | ⟨1, _⟩ => show 256 * (ch.val % 8) + 256 ≤ 2048; omega
  | ⟨2, _⟩ => show 128 * (ch.val / 8) + 128 ≤ 512; omega

/-- The running maxima of chain `ch`. -/
def chainM (xs0 : Vec F S256x256 .f32) (ch : Fin 32) : Vec F S8x256 .f32 := View.ld xs0 (Rect.unit (s := S256x256) ![8 * ch.val, 0] S8x256.size (inbM ch))

/-- The accumulator of chain `ch`. -/
def chainA (xs1 : Vec F S32x144x256 .f32) (ch : Fin 32) : Vec F S1x144x256 .f32 := View.ld xs1 (Rect.unit (s := S32x144x256) ![ch.val, 0, 0] S1x144x256.size (inbA ch))

/-- The maxima the 32 chains store, one piece each, the last chain first. -/
def piecesM (mp : Fin 32 → Vec F S8x256 .f32) : List (View.Piece (Elt F) S256x256 .f32) :=
  List.ofFn fun k : Fin 32 => ⟨Rect.unit ![8 * k.rev.val, 0] S8x256.size (inbM k.rev), mp k.rev⟩

/-- The accumulators the 32 chains store. -/
def piecesA (ap : Fin 32 → Vec F S1x144x256 .f32) : List (View.Piece (Elt F) S32x144x256 .f32) :=
  List.ofFn fun k : Fin 32 => ⟨Rect.unit ![k.rev.val, 0, 0] S1x144x256.size (inbA k.rev), ap k.rev⟩

/-- The output rows the 32 chains store. -/
def piecesO (op : Fin 32 → Vec F S1x256x128 .bf16) : List (View.Piece (Elt F) S1x2048x512 .bf16) :=
  List.ofFn fun k : Fin 32 => ⟨Rect.unit ![0, 256 * (k.rev.val % 8), 128 * (k.rev.val / 8)] S1x256x128.size (inbO k.rev), op k.rev⟩

/-- The values of the first point of a run, transposed, over the rows of ones stored before them. -/
def valsA (arg10 : Memref sig .tc .vmem S144x2048 .bf16) (x2 : Vec F S1x2048x128 .bf16) : Vec F S144x2048 .bf16 :=
  View.readCov (Val := Elt F) arg10.view [⟨Rect.unit ![0, 0] ![128, 2048] inb_S144x2048_S128x2048_0_0, k0_pay46 x2⟩,
    ⟨Rect.unit ![128, 0] ![16, 2048] inb_S144x2048_S16x2048_128_0, k0_pay45⟩]
    (Rect.unit (s := S144x2048) ![0, 0] S144x2048.size inb_S144x2048_S144x2048_0_0).toLoadRect

section

variable (c : Dev nD) (i : grid0.Coords) (arg4 : Memref sig .tc .vmem S1x2048x512 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x512 .bf16) (harg7 : arg7.IsWhole) (arg8 : Memref sig .tc .vmem S256x256 .f32) (harg8 : arg8.IsWhole) (arg9 : Memref sig .tc .vmem S32x144x256 .f32) (harg9 : arg9.IsWhole) (arg10 : Memref sig .tc .vmem S144x2048 .bf16) (harg10 : arg10.IsWhole)
    (x0 : Vec F S1x2048x512 .bf16) (x1 : Vec F S1x2048x128 .bf16) (x2 : Vec F S1x2048x128 .bf16) (xs0 : Vec F S256x256 .f32) (xs1 : Vec F S32x144x256 .f32) (xs2 : Vec F S144x2048 .bf16)

set_option maxHeartbeats 1000000 in
theorem maxB (hc0 : ¬cond0_0 i) (hc1 : ¬cond0_1 i) :
    sout0_B_0 c i arg4 harg4 arg5 harg5 arg6 harg6 arg7 harg7 arg8 harg8 arg9 harg9 arg10 harg10 hc0 hc1 x0 x1 x2 xs0 xs1 xs2
      = View.canon (piecesM fun ch => shapeCast S8x256 (newMax (scores x1 (chainQ x0 ch)) (chainM xs0 ch)) shapeCasts_S8x256_S8x256) := by
  frame_out
  refine congrArg View.canon ?_
  rfl

set_option maxHeartbeats 1000000 in
theorem accB (hc0 : ¬cond0_0 i) (hc1 : ¬cond0_1 i) :
    sout0_B_1 c i arg4 harg4 arg5 harg5 arg6 harg6 arg7 harg7 arg8 harg8 arg9 harg9 arg10 harg10 hc0 hc1 x0 x1 x2 xs0 xs1 xs2
      = View.canon (piecesA fun ch => newAcc (sout0_B_2 c i arg4 harg4 arg5 harg5 arg6 harg6 arg7 harg7 arg8 harg8 arg9 harg9 arg10 harg10 hc0 hc1 x0 x1 x2 xs0 xs1 xs2)
          (scores x1 (chainQ x0 ch)) (chainM xs0 ch) (chainA xs1 ch)) := by
  frame_out
  refine congrArg View.canon ?_
  rfl

set_option maxHeartbeats 1000000 in
theorem maxC (hc0 : ¬cond0_0 i) (hc1 : cond0_1 i) :
    sout0_C_0 c i arg4 harg4 arg5 harg5 arg6 harg6 arg7 harg7 arg8 harg8 arg9 harg9 arg10 harg10 hc0 hc1 x0 x1 x2 xs0 xs1 xs2
      = View.canon (piecesM fun ch => shapeCast S8x256 (newMax (scores x1 (chainQ x0 ch)) (chainM xs0 ch)) shapeCasts_S8x256_S8x256) := by
  frame_out
  refine congrArg View.canon ?_
  rfl

set_option maxHeartbeats 1000000 in
theorem accC (hc0 : ¬cond0_0 i) (hc1 : cond0_1 i) :
    sout0_C_1 c i arg4 harg4 arg5 harg5 arg6 harg6 arg7 harg7 arg8 harg8 arg9 harg9 arg10 harg10 hc0 hc1 x0 x1 x2 xs0 xs1 xs2
      = View.canon (piecesA fun ch => newAcc (sout0_C_2 c i arg4 harg4 arg5 harg5 arg6 harg6 arg7 harg7 arg8 harg8 arg9 harg9 arg10 harg10 hc0 hc1 x0 x1 x2 xs0 xs1 xs2)
          (scores x1 (chainQ x0 ch)) (chainM xs0 ch) (chainA xs1 ch)) := by
  frame_out
  refine congrArg View.canon ?_
  rfl

set_option maxHeartbeats 1000000 in
theorem outC (hc0 : ¬cond0_0 i) (hc1 : cond0_1 i) :
    out0_C_3 c i arg4 harg4 arg5 harg5 arg6 harg6 arg7 harg7 arg8 harg8 arg9 harg9 arg10 harg10 hc0 hc1 x0 x1 x2 xs0 xs1 xs2
      = View.canon (piecesO fun ch => outRows (newAcc (sout0_C_2 c i arg4 harg4 arg5 harg5 arg6 harg6 arg7 harg7 arg8 harg8 arg9 harg9 arg10 harg10 hc0 hc1 x0 x1 x2 xs0 xs1 xs2)
          (scores x1 (chainQ x0 ch)) (chainM xs0 ch) (chainA xs1 ch))) := by
  frame_open
  simp (disch := decide) only [↓ View.readCov_skip, ↓ View.readCov_cons_toLoadRect, ↓ View.readCov_fill]
  frame_out
  refine congrArg View.canon ?_
  rfl

set_option maxHeartbeats 1000000 in
theorem maxA (hc0 : cond0_0 i) (hc1 : ¬cond0_1 i) :
    sout0_A_0 c i arg4 harg4 arg5 harg5 arg6 harg6 arg7 harg7 arg8 harg8 arg9 harg9 arg10 harg10 hc0 hc1 x0 x1 x2
      = View.canon (piecesM (fun ch => shapeCast S8x256 (newMax (scores x1 (chainQ x0 ch)) (chainM k0_pay43 ch)) shapeCasts_S8x256_S8x256)
          ++ [⟨Rect.unit ![0, 0] S256x256.size (by decide), k0_pay43⟩]) := by
  frame_open
  simp (disch := decide) only [↓ View.readCov_skip, ↓ View.readCov_cons_toLoadRect, ↓ View.readCov_fill]
  frame_out
  refine congrArg View.canon ?_
  rfl

set_option maxHeartbeats 1000000 in
theorem accA (hc0 : cond0_0 i) (hc1 : ¬cond0_1 i) :
    sout0_A_1 c i arg4 harg4 arg5 harg5 arg6 harg6 arg7 harg7 arg8 harg8 arg9 harg9 arg10 harg10 hc0 hc1 x0 x1 x2
      = View.canon (piecesA (fun ch => newAcc (valsA arg10 x2)
          (scores x1 (chainQ x0 ch)) (chainM k0_pay43 ch) (chainA k0_pay44 ch))
          ++ [⟨Rect.unit ![0, 0, 0] S32x144x256.size (by decide), k0_pay44⟩]) := by
  frame_open
  simp (disch := decide) only [↓ View.readCov_skip, ↓ View.readCov_cons_toLoadRect, ↓ View.readCov_fill]
  frame_out
  refine congrArg View.canon ?_
  rfl

theorem valA (hc0 : cond0_0 i) (hc1 : ¬cond0_1 i) :
    sout0_A_2 c i arg4 harg4 arg5 harg5 arg6 harg6 arg7 harg7 arg8 harg8 arg9 harg9 arg10 harg10 hc0 hc1 x0 x1 x2
      = View.canon [⟨Rect.unit ![0, 0] ![128, 2048] inb_S144x2048_S128x2048_0_0, k0_pay46 x2⟩,
        ⟨Rect.unit ![128, 0] ![16, 2048] inb_S144x2048_S16x2048_128_0, k0_pay45⟩] := by
  frame_out

theorem valB (hc0 : ¬cond0_0 i) (hc1 : ¬cond0_1 i) :
    sout0_B_2 c i arg4 harg4 arg5 harg5 arg6 harg6 arg7 harg7 arg8 harg8 arg9 harg9 arg10 harg10 hc0 hc1 x0 x1 x2 xs0 xs1 xs2
      = View.read (Elt F) arg10.view (arg10.view.writes (Elt F) (harg10.unread xs2)
        [⟨Rect.unit ![0, 0] ![128, 2048] inb_S144x2048_S128x2048_0_0, k0_pay46 x2⟩]) := by
  frame_out

theorem valC (hc0 : ¬cond0_0 i) (hc1 : cond0_1 i) :
    sout0_C_2 c i arg4 harg4 arg5 harg5 arg6 harg6 arg7 harg7 arg8 harg8 arg9 harg9 arg10 harg10 hc0 hc1 x0 x1 x2 xs0 xs1 xs2
      = View.read (Elt F) arg10.view (arg10.view.writes (Elt F) (harg10.unread xs2)
        [⟨Rect.unit ![0, 0] ![128, 2048] inb_S144x2048_S128x2048_0_0, k0_pay46 x2⟩]) := by
  frame_out

end

end Cert.KernelIdeal.Step

end
-- ==== Proof.Online.lean ====
/- The mathematics of a softmax taken block by block, over the extended reals: a running maximum and sums rescaled to it
   give, after the last block, the softmax-weighted sum. -/
module

public import Idealize.ShloMosaic.PureOps.Ideal

@[expose] public section

noncomputable section

namespace Cert.Online

open Idealize.ShloMosaic

/-- A non-negative real factor goes into a finite sum of extended reals. -/
theorem real_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one, is a real. -/
theorem fold_max_real {ι : Type} [Fintype ι] [Nonempty ι] (x : ι → ℝ) :
    ∃ μ : ℝ, Finset.univ.fold max (⊥ : EReal) (fun k => (x k : EReal)) = μ := by
  obtain ⟨i, -, h⟩ := Finset.exists_mem_eq_sup (Finset.univ : Finset ι) Finset.univ_nonempty (fun k => (x k : EReal))
  exact ⟨x i, h⟩

/-- Where one query's running state stands after its first `n` keys, with base-two scores `x` and one weight row per `d`:
    its maximum is a real, and each of its sums is the weighted sum of the exponentials relative to it. -/
def Holds {D : Type} (x : ℕ → ℝ) (w : D → ℕ → EReal) (n : ℕ) (m : EReal) (acc : D → EReal) : Prop :=
  ∃ μ : ℝ, m = μ ∧ ∀ d, acc d = ∑ k ∈ Finset.range n, w d k * ((Real.rpow 2 (x k - μ) : ℝ) : EReal)

theorem exp2_nonneg (r : ℝ) : 0 ≤ Real.rpow 2 r := Real.rpow_nonneg (by norm_num) r

theorem exp2_add (r s : ℝ) : Real.rpow 2 r * Real.rpow 2 s = Real.rpow 2 (r + s) :=
  (Real.rpow_add (by norm_num) r s).symm

/-- The block's own terms, once the new maximum is a real. -/
theorem block_sum {B : ℕ} (x : ℕ → ℝ) (w : ℕ → EReal) (n : ℕ) (s : Fin B → EReal) (hs : ∀ k, s k = (x (n + k.val) : EReal)) (μ : ℝ) :
    ∑ k : Fin B, w (n + k.val) * Ideal.exp2 (s k - (μ : EReal))
      = ∑ k ∈ Finset.range B, w (n + k) * ((Real.rpow 2 (x (n + k) - μ) : ℝ) : EReal) := by
  rw [Finset.sum_range]
  refine Finset.sum_congr rfl fun k _ => ?_
  rw [hs, ← EReal.coe_sub, Ideal.exp2_coe]

/-- The first block, from the maximum `⊥` and sums of zero. -/
theorem holds_first {D : Type} {B : ℕ} [NeZero B] (x : ℕ → ℝ) (w : D → ℕ → EReal) (s : Fin B → EReal) (hs : ∀ k, s k = (x k.val : EReal))
    (m' : EReal) (hm : m' = max ⊥ (Finset.univ.fold max (⊥ : EReal) s)) (acc' : D → EReal)
    (ha : ∀ d, acc' d = Ideal.exp2 (⊥ - m') * 0 + ∑ k : Fin B, w d k.val * Ideal.exp2 (s k - m')) :
    Holds x w B m' acc' := by
  obtain ⟨μ, hμ⟩ := fold_max_real (fun k : Fin B => x k.val)
  have hm' : m' = (μ : EReal) := by
    rw [hm, ← hμ, max_eq_right bot_le, funext hs]
  refine ⟨μ, hm', fun d => ?_⟩
  have h := block_sum x (w d) 0 s (fun k => by rw [hs, Nat.zero_add]) μ
  simp only [Nat.zero_add] at h
  rw [ha, hm', mul_zero, zero_add, h]

/-- One more block. -/
theorem holds_next {D : Type} {B : ℕ} [NeZero B] (x : ℕ → ℝ) (w : D → ℕ → EReal) (n : ℕ) (m : EReal) (acc : D → EReal)
    (h : Holds x w n m acc) (s : Fin B → EReal) (hs : ∀ k, s k = (x (n + k.val) : EReal))
    (m' : EReal) (hm : m' = max m (Finset.univ.fold max (⊥ : EReal) s)) (acc' : D → EReal)
    (ha : ∀ d, acc' d = Ideal.exp2 (m - m') * acc d + ∑ k : Fin B, w d (n + k.val) * Ideal.exp2 (s k - m')) :
    Holds x w (n + B) m' acc' := by
  obtain ⟨ν, hν, hacc⟩ := h
  obtain ⟨μ, hμ⟩ := fold_max_real (fun k : Fin B => x (n + k.val))
  have hm' : m' = ((max ν μ : ℝ) : EReal) := by
    rw [hm, hν, EReal.coe_strictMono.monotone.map_max, ← hμ, funext hs]
  refine ⟨max ν μ, hm', fun d => ?_⟩
  rw [ha, hacc, hm', hν, ← EReal.coe_sub, Ideal.exp2_coe, real_mul_sum _ (exp2_nonneg _), Finset.sum_range_add,
    block_sum x (w d) n s hs]
  congr 1
  refine Finset.sum_congr rfl fun k _ => ?_
  rw [mul_left_comm, ← EReal.coe_mul, exp2_add]
  congr 3; ring

/-- The reals' exponentials of the natural scores, summed, are positive. -/
theorem sum_exp_pos (y : ℕ → ℝ) (n : ℕ) (hn : 0 < n) : 0 < ∑ k ∈ Finset.range n, Real.exp (y k) :=
  Finset.sum_pos (fun k _ => Real.exp_pos _) ⟨0, Finset.mem_range.2 hn⟩

/-- After the last block a weighted sum over the sum of the exponentials is the softmax-weighted sum. -/
theorem holds_last {D : Type} (x y : ℕ → ℝ) (hxy : ∀ k, x k = y k / Real.log 2) (w : D → ℕ → EReal) (n : ℕ) (hn : 0 < n) (m : EReal)
    (acc : D → EReal) (h : Holds x w n m acc) (d one : D) (h1 : ∀ k < n, w one k = 1) :
    Ideal.div (acc d) (acc one)
      = ∑ k ∈ Finset.range n, w d k * ((Real.exp (y k) / ∑ j ∈ Finset.range n, Real.exp (y j) : ℝ) : EReal) := by
  obtain ⟨μ, -, hacc⟩ := h
  have e : ∀ k, Real.rpow 2 (x k - μ) = Real.exp (y k) * Real.exp (-(Real.log 2 * μ)) := fun k => by
    show (2 : ℝ) ^ (x k - μ) = _
    rw [Real.rpow_def_of_pos (by norm_num), ← Real.exp_add, hxy]
    have : Real.log 2 ≠ 0 := (Real.log_pos (by norm_num)).ne'
    congr 1; field_simp; ring
  have hL : acc one = (((∑ j ∈ Finset.range n, Real.exp (y j)) * Real.exp (-(Real.log 2 * μ)) : ℝ) : EReal) := by
    rw [hacc, Finset.sum_mul, coe_sum]
    exact Finset.sum_congr rfl fun k hk => by rw [h1 k (Finset.mem_range.1 hk), one_mul, e]
  have hpos := sum_exp_pos y n hn
  have hne : (∑ j ∈ Finset.range n, Real.exp (y j)) * Real.exp (-(Real.log 2 * μ)) ≠ 0 := (mul_pos hpos (Real.exp_pos _)).ne'
  rw [hL, Ideal.div, if_neg (by exact_mod_cast hne), hacc, ← EReal.coe_inv, mul_comm,
    real_mul_sum _ (inv_nonneg.2 (mul_pos hpos (Real.exp_pos _)).le)]
  refine Finset.sum_congr rfl fun k _ => ?_
  rw [mul_left_comm, ← EReal.coe_mul, e]
  congr 2
  have h2 := (Real.exp_pos (-(Real.log 2 * μ))).ne'
  have h3 := hpos.ne'
  field_simp

/-- The softmax of real scores as the reference takes it, shifted by a real maximum: the same weighted sum. -/
theorem softmax_sum {N : ℕ} [NeZero N] (y : ℕ → ℝ) (v : ℕ → EReal) (s : Fin N → EReal) (hs : ∀ k, s k = (y k.val : EReal))
    (M : EReal) (μ : ℝ) (hM : M = (μ : EReal)) :
    ∑ k : Fin N, v k.val * Ideal.div (Ideal.exp (s k - M)) (∑ j : Fin N, Ideal.exp (s j - M))
      = ∑ k ∈ Finset.range N, v k * ((Real.exp (y k) / ∑ j ∈ Finset.range N, Real.exp (y j) : ℝ) : EReal) := by
  have e : ∀ k : Fin N, Ideal.exp (s k - M) = ((Real.exp (y k.val) * Real.exp (-μ) : ℝ) : EReal) := fun k => by
    rw [hs, hM, ← EReal.coe_sub, Ideal.exp_coe, sub_eq_add_neg, Real.exp_add]
  have hpos := sum_exp_pos y N (Nat.pos_of_ne_zero (NeZero.ne N))
  have hL : ∑ j : Fin N, Ideal.exp (s j - M) = (((∑ j ∈ Finset.range N, Real.exp (y j)) * Real.exp (-μ) : ℝ) : EReal) := by
    rw [Finset.sum_range, Finset.sum_mul, coe_sum]
    exact Finset.sum_congr rfl fun k _ => e k
  have hne : (∑ j ∈ Finset.range N, Real.exp (y j)) * Real.exp (-μ) ≠ 0 := (mul_pos hpos (Real.exp_pos _)).ne'
  rw [hL]
  refine Eq.trans ?_ (Finset.sum_range fun k => v k * ((Real.exp (y k) / ∑ j ∈ Finset.range N, Real.exp (y j) : ℝ) : EReal)).symm
  refine Finset.sum_congr rfl fun k _ => ?_
  rw [Ideal.div, if_neg (by exact_mod_cast hne), e, ← EReal.coe_inv, ← EReal.coe_mul]
  congr 2
  have h2 := (Real.exp_pos (-μ)).ne'
  have h3 := hpos.ne'
  field_simp

end Cert.Online

end
-- ==== Proof.Reads.lean ====
/- The carried scratches read at an index, and the invariant of a run: each chain's maximum and accumulator hold the
   online softmax of the keys seen so far. -/
module

public import proofs.«01_k».proof.Proof.Step
public import proofs.«01_k».proof.Proof.Online
public import Idealize.ShloMosaic.Lib.WritesUnit

@[expose] public section

set_option maxRecDepth 16384

noncomputable section

namespace Cert.KernelIdeal.Step

open Cert.KernelIdeal Cert.KernelIdeal.Gen Cert.KernelIdeal.Chain Idealize.ShloMosaic Idealize.SL.Sem Idealize.ShloMosaic.TcCoe

/-- Earlier stores do not matter where the later ones cover. -/
theorem canon_append_left {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hy⟩ := h
      rcases List.mem_cons.mp hq with rfl | hq'
      · exact absurd hy hm
      · exact ⟨q, hq', hy⟩

variable {F : FTy → Type} [FloatOps F]

theorem mem_piecesM (mp : Fin 32 → Vec F S8x256 .f32) (ch : Fin 32) (r : Fin 8) (l : Fin 256) :
    ∃ p ∈ piecesM mp, (ix2 ⟨8 * ch.val + r.val, by omega⟩ l : S256x256.Idx) ∈ p.1.set := by
  obtain ⟨k, rfl⟩ : ∃ k : Fin 32, ch = k.rev := ⟨ch.rev, (Fin.rev_rev ch).symm⟩
  refine ⟨⟨Rect.unit ![8 * k.rev.val, 0] S8x256.size (inbM k.rev), mp k.rev⟩,
    List.mem_ofFn.mpr ⟨k, rfl⟩, (Rect.mem_set_unit (inb := inbM k.rev)).mpr ?_⟩
  intro a
  match a with
  | ⟨0, _⟩ => show 8 * k.rev.val ≤ 8 * k.rev.val + r.val ∧ 8 * k.rev.val + r.val < 8 * k.rev.val + 8; omega
  | ⟨1, _⟩ => show 0 ≤ l.val ∧ l.val < 0 + 256; omega

theorem readM (mp : Fin 32 → Vec F S8x256 .f32) (ch : Fin 32) (r : Fin 8) (l : Fin 256) :
    View.canon (piecesM mp) (ix2 ⟨8 * ch.val + r.val, by omega⟩ l) = mp ch (ix2 r l) := by
  refine View.canon_ofFn_unit_eq_of_forall (S := S256x256) (fun k : Fin 32 => ![8 * k.rev.val, 0]) S8x256.size (fun k => inbM k.rev)
    (fun k => mp k.rev) _ _ ⟨ch.rev, ?_⟩ ?_
  · rw [Fin.rev_rev]
    intro a
    match a with
    | ⟨0, _⟩ => show 8 * ch.val ≤ 8 * ch.val + r.val ∧ 8 * ch.val + r.val < 8 * ch.val + 8; omega
    | ⟨1, _⟩ => show 0 ≤ l.val ∧ l.val < 0 + 256; omega
  · intro k x hx
    have h0 : 8 * ch.val + r.val = 8 * k.rev.val + (x 0).val := hx 0
    have h1 : l.val = 0 + (x 1).val := hx 1
    have hx0 : (x 0).val < 8 := (x 0).isLt
    have hr := r.isLt
    have e : k.rev = ch := Fin.ext (by omega)
    rw [e] at h0 ⊢
    refine congrArg (mp ch) (funext fun a => Fin.ext ?_)
    match a with
    | ⟨0, _⟩ => show (x 0).val = r.val; omega
    | ⟨1, _⟩ => show (x 1).val = l.val; omega

theorem mem_piecesA (ap : Fin 32 → Vec F S1x144x256 .f32) (ch : Fin 32) (d : Fin 144) (l : Fin 256) :
    ∃ p ∈ piecesA ap, (ix3 ch d l : S32x144x256.Idx) ∈ p.1.set := by
  obtain ⟨k, rfl⟩ : ∃ k : Fin 32, ch = k.rev := ⟨ch.rev, (Fin.rev_rev ch).symm⟩
  refine ⟨⟨Rect.unit ![k.rev.val, 0, 0] S1x144x256.size (inbA k.rev), ap k.rev⟩,
    List.mem_ofFn.mpr ⟨k, rfl⟩, (Rect.mem_set_unit (inb := inbA k.rev)).mpr ?_⟩
  intro a
  match a with
  | ⟨0, _⟩ => show k.rev.val ≤ k.rev.val ∧ k.rev.val < k.rev.val + 1; omega
  | ⟨1, _⟩ => show 0 ≤ d.val ∧ d.val < 0 + 144; omega
  | ⟨2, _⟩ => show 0 ≤ l.val ∧ l.val < 0 + 256; omega

theorem readA (ap : Fin 32 → Vec F S1x144x256 .f32) (ch : Fin 32) (d : Fin 144) (l : Fin 256) :
    View.canon (piecesA ap) (ix3 ch d l) = ap ch (ix3 0 d l) := by
  refine View.canon_ofFn_unit_eq_of_forall (S := S32x144x256) (fun k : Fin 32 => ![k.rev.val, 0, 0]) S1x144x256.size (fun k => inbA k.rev)
    (fun k => ap k.rev) _ _ ⟨ch.rev, ?_⟩ ?_
  · rw [Fin.rev_rev]
    intro a
    match a with
    | ⟨0, _⟩ => show ch.val ≤ ch.val ∧ ch.val < ch.val + 1; omega
    | ⟨1, _⟩ => show 0 ≤ d.val ∧ d.val < 0 + 144; omega
    | ⟨2, _⟩ => show 0 ≤ l.val ∧ l.val < 0 + 256; omega
  · intro k x hx
    have h0 : ch.val = k.rev.val + (x 0).val := hx 0
    have h1 : d.val = 0 + (x 1).val := hx 1
    have h2 : l.val = 0 + (x 2).val := hx 2
    have hx0 : (x 0).val < 1 := (x 0).isLt
    have e : k.rev = ch := Fin.ext (by omega)
    rw [e] at h0 ⊢
    refine congrArg (ap ch) (funext fun a => Fin.ext ?_)
    match a with
    | ⟨0, _⟩ => show (x 0).val = 0; omega
    | ⟨1, _⟩ => show (x 1).val = d.val; omega
    | ⟨2, _⟩ => show (x 2).val = l.val; omega

theorem readO (op : Fin 32 → Vec F S1x256x128 .bf16) (ch : Fin 32) (l : Fin 256) (d : Fin 128) :
    View.canon (piecesO op) (ix3 0 ⟨256 * (ch.val % 8) + l.val, by omega⟩ ⟨128 * (ch.val / 8) + d.val, by omega⟩) = op ch (ix3 0 l d) := by
  refine View.canon_ofFn_unit_eq_of_forall (S := S1x2048x512) (fun k : Fin 32 => ![0, 256 * (k.rev.val % 8), 128 * (k.rev.val / 8)]) S1x256x128.size
    (fun k => inbO k.rev) (fun k => op k.rev) _ _ ⟨ch.rev, ?_⟩ ?_
  · rw [Fin.rev_rev]
    intro a
    match a with
    | ⟨0, _⟩ => show 0 ≤ 0 ∧ 0 < 0 + 1; omega
    | ⟨1, _⟩ => show 256 * (ch.val % 8) ≤ 256 * (ch.val % 8) + l.val ∧ 256 * (ch.val % 8) + l.val < 256 * (ch.val % 8) + 256; omega
    | ⟨2, _⟩ => show 128 * (ch.val / 8) ≤ 128 * (ch.val / 8) + d.val ∧ 128 * (ch.val / 8) + d.val < 128 * (ch.val / 8) + 128; omega
  · intro k x hx
    have h1 : 256 * (ch.val % 8) + l.val = 256 * (k.rev.val % 8) + (x 1).val := hx 1
    have h2 : 128 * (ch.val / 8) + d.val = 128 * (k.rev.val / 8) + (x 2).val := hx 2
    have hx0 : (x 0).val < 1 := (x 0).isLt
    have hx1 : (x 1).val < 256 := (x 1).isLt
    have hx2 : (x 2).val < 128 := (x 2).isLt
    have e : k.rev = ch := Fin.ext (by omega)
    rw [e] at h1 h2 ⊢
    refine congrArg (op ch) (funext fun a => Fin.ext ?_)
    match a with
    | ⟨0, _⟩ => show (x 0).val = 0; omega
    | ⟨1, _⟩ => show (x 1).val = l.val; omega
    | ⟨2, _⟩ => show (x 2).val = d.val; omega

theorem chainM_apply (xs0 : Vec F S256x256 .f32) (ch : Fin 32) (r : Fin 8) (l : Fin 256) :
    chainM xs0 ch (ix2 r l) = xs0 (ix2 ⟨8 * ch.val + r.val, by omega⟩ l) := by
  refine View.ld_unit_apply_of _ _ _ _ _ _ fun a => ?_
  match a with
  | ⟨0, _⟩ => rfl
  | ⟨1, _⟩ => show l.val = 0 + l.val; omega

theorem chainA_apply (xs1 : Vec F S32x144x256 .f32) (ch : Fin 32) (d : Fin 144) (l : Fin 256) :
    chainA xs1 ch (ix3 0 d l) = xs1 (ix3 ch d l) := by
  refine View.ld_unit_apply_of _ _ _ _ _ _ fun a => ?_
  match a with
  | ⟨0, _⟩ => rfl
  | ⟨1, _⟩ => show d.val = 0 + d.val; omega
  | ⟨2, _⟩ => show l.val = 0 + l.val; omega

theorem chainQ_apply (x0 : Vec F S1x2048x512 .bf16) (ch : Fin 32) (l : Fin 256) (d : Fin 128) :
    chainQ x0 ch (ix3 0 l d) = x0 (ix3 0 ⟨256 * (ch.val % 8) + l.val, by omega⟩ ⟨128 * (ch.val / 8) + d.val, by omega⟩) := by
  refine View.ld_unit_apply_of _ _ _ _ _ _ fun a => ?_
  match a with
  | ⟨0, _⟩ => rfl
  | ⟨1, _⟩ => rfl
  | ⟨2, _⟩ => rfl

theorem pay46_apply (x2 : Vec Ideal S1x2048x128 .bf16) (d : Fin 128) (k : Fin 2048) : k0_pay46 (F := Ideal) x2 (ix2 d k) = x2 (ix3 0 k d) := by
  pointwise [k0_pay46]

theorem pay45_apply (d : Fin 16) (k : Fin 2048) : k0_pay45 (F := Ideal) (ix2 d k) = (1 : EReal) := by
  pointwise [k0_pay45]

theorem pay44_apply (ch : Fin 32) (d : Fin 144) (l : Fin 256) : k0_pay44 (F := Ideal) (ix3 ch d l) = (0 : EReal) := by
  pointwise [k0_pay44]

theorem pay43_apply (r : Fin 256) (l : Fin 256) : k0_pay43 (F := Ideal) (ix2 r l) = (⊥ : EReal) := by
  pointwise [k0_pay43]
  simp [Ideal.ofBits, Ideal.ieee]

/-- The invariant of a run after `n` keys: every chain's first maximum row and accumulator hold the online softmax of
    the scores `x` against the values `w`. -/
def Inv (x : Fin 32 → Fin 256 → ℕ → ℝ) (w : Fin 144 → ℕ → EReal) (n : ℕ) (xs0 : Vec Ideal S256x256 .f32)
    (xs1 : Vec Ideal S32x144x256 .f32) : Prop :=
  ∀ (ch : Fin 32) (l : Fin 256), Online.Holds (x ch l) w n (xs0 (ix2 ⟨8 * ch.val + (0 : Fin 8).val, by omega⟩ l)) (fun d => xs1 (ix3 ch d l))

/-- What the chains store, over what they load. -/
def nextM (x0 : Vec Ideal S1x2048x512 .bf16) (x1 : Vec Ideal S1x2048x128 .bf16) (xs0 : Vec Ideal S256x256 .f32) :
    List (View.Piece (Elt Ideal) S256x256 .f32) :=
  piecesM fun ch => shapeCast S8x256 (newMax (scores x1 (chainQ x0 ch)) (chainM xs0 ch)) shapeCasts_S8x256_S8x256

def nextA (vx : Vec Ideal S144x2048 .bf16) (x0 : Vec Ideal S1x2048x512 .bf16) (x1 : Vec Ideal S1x2048x128 .bf16)
    (xs0 : Vec Ideal S256x256 .f32) (xs1 : Vec Ideal S32x144x256 .f32) : List (View.Piece (Elt Ideal) S32x144x256 .f32) :=
  piecesA fun ch => newAcc vx (scores x1 (chainQ x0 ch)) (chainM xs0 ch) (chainA xs1 ch)

theorem nextM_apply (x0 : Vec Ideal S1x2048x512 .bf16) (x1 : Vec Ideal S1x2048x128 .bf16) (xs0 : Vec Ideal S256x256 .f32)
    (ch : Fin 32) (l : Fin 256) :
    View.canon (nextM x0 x1 xs0) (ix2 ⟨8 * ch.val + (0 : Fin 8).val, by omega⟩ l)
      = max (xs0 (ix2 ⟨8 * ch.val + (0 : Fin 8).val, by omega⟩ l) : EReal)
          (Finset.univ.fold max (⊥ : EReal) fun k : Fin 2048 => scores x1 (chainQ x0 ch) (ix2 k l)) := by
  rw [nextM, readM, shapeCast_self, newMax_apply, chainM_apply]

theorem nextA_apply (vx : Vec Ideal S144x2048 .bf16) (x0 : Vec Ideal S1x2048x512 .bf16) (x1 : Vec Ideal S1x2048x128 .bf16)
    (xs0 : Vec Ideal S256x256 .f32) (xs1 : Vec Ideal S32x144x256 .f32) (ch : Fin 32) (d : Fin 144) (l : Fin 256) :
    View.canon (nextA vx x0 x1 xs0 xs1) (ix3 ch d l)
      = (Ideal.exp2 (xs0 (ix2 ⟨8 * ch.val + (0 : Fin 8).val, by omega⟩ l)
            - View.canon (nextM x0 x1 xs0) (ix2 ⟨8 * ch.val + (0 : Fin 8).val, by omega⟩ l)) * xs1 (ix3 ch d l)
          + ∑ k : Fin 2048, vx (ix2 d k) * Ideal.exp2 (scores x1 (chainQ x0 ch) (ix2 k l)
            - View.canon (nextM x0 x1 xs0) (ix2 ⟨8 * ch.val + (0 : Fin 8).val, by omega⟩ l)) : EReal) := by
  rw [nextM, readM, shapeCast_self, nextA, readA, newAcc_apply, chainM_apply, chainA_apply]

theorem inv_next (x : Fin 32 → Fin 256 → ℕ → ℝ) (w : Fin 144 → ℕ → EReal) (n : ℕ) (vx : Vec Ideal S144x2048 .bf16)
    (x0 : Vec Ideal S1x2048x512 .bf16) (x1 : Vec Ideal S1x2048x128 .bf16)
    (xs0 : Vec Ideal S256x256 .f32) (xs1 : Vec Ideal S32x144x256 .f32)
    (hs : ∀ ch l (k : Fin 2048), scores x1 (chainQ x0 ch) (ix2 k l) = (x ch l (n + k.val) : EReal))
    (hv : ∀ d (k : Fin 2048), vx (ix2 d k) = w d (n + k.val)) (h : Inv x w n xs0 xs1) :
    Inv x w (n + 2048) (View.canon (nextM x0 x1 xs0)) (View.canon (nextA vx x0 x1 xs0 xs1)) := by
  intro ch l
  refine Online.holds_next (x ch l) w n _ _ (h ch l) _ (hs ch l) _ (nextM_apply x0 x1 xs0 ch l) _ fun d => ?_
  rw [nextA_apply]
  simp only [hv]

theorem inv_first (x : Fin 32 → Fin 256 → ℕ → ℝ) (w : Fin 144 → ℕ → EReal) (vx : Vec Ideal S144x2048 .bf16)
    (x0 : Vec Ideal S1x2048x512 .bf16) (x1 : Vec Ideal S1x2048x128 .bf16)
    (hs : ∀ ch l (k : Fin 2048), scores x1 (chainQ x0 ch) (ix2 k l) = (x ch l k.val : EReal))
    (hv : ∀ d (k : Fin 2048), vx (ix2 d k) = w d k.val) :
    Inv x w 2048 (View.canon (nextM x0 x1 (k0_pay43 (F := Ideal)))) (View.canon (nextA vx x0 x1 (k0_pay43 (F := Ideal)) (k0_pay44 (F := Ideal)))) := by
  intro ch l
  refine Online.holds_first (x ch l) w _ (hs ch l) _ ((nextM_apply x0 x1 (k0_pay43 (F := Ideal)) ch l).trans ?_) _ fun d => ?_
  · rw [pay43_apply]
  · rw [nextA_apply, pay43_apply, pay44_apply]
    simp only [hv]

/-- The fill of the whole scratch under the first point's stores is covered. -/
theorem inv_append (x : Fin 32 → Fin 256 → ℕ → ℝ) (w : Fin 144 → ℕ → EReal) (n : ℕ) (mp : Fin 32 → Vec Ideal S8x256 .f32)
    (ap : Fin 32 → Vec Ideal S1x144x256 .f32) (L M) (h : Inv x w n (View.canon (piecesM mp)) (View.canon (piecesA ap))) :
    Inv x w n (View.canon (piecesM mp ++ L)) (View.canon (piecesA ap ++ M)) := by
  intro ch l
  have h' := h ch l
  rw [← canon_append_left L _ _ (mem_piecesM mp ch 0 l)] at h'
  have e : (fun d => View.canon (piecesA ap ++ M) (ix3 ch d l)) = fun d => View.canon (piecesA ap) (ix3 ch d l) :=
    funext fun d => canon_append_left M _ _ (mem_piecesA ap ch d l)
  rw [e]
  exact h'

/-- The transposed values over the rows of ones, at an index. -/
theorem fillA_apply (x2 : Vec Ideal S1x2048x128 .bf16) (d : Fin 144) (k : Fin 2048) :
    View.canon [⟨Rect.unit ![0, 0] ![128, 2048] inb_S144x2048_S128x2048_0_0, k0_pay46 (F := Ideal) x2⟩,
        ⟨Rect.unit ![128, 0] ![16, 2048] inb_S144x2048_S16x2048_128_0, k0_pay45 (F := Ideal)⟩] (ix2 d k)
      = if h : d.val < 128 then x2 (ix3 0 k ⟨d.val, h⟩) else (1 : EReal) := by
  by_cases h : d.val < 128
  · rw [dif_pos h]
    have hy : (ix2 d k : S144x2048.Idx) = (Rect.unit (s := S144x2048) ![0, 0] S128x2048.size inb_S144x2048_S128x2048_0_0).emb (ix2 ⟨d.val, h⟩ k) := by
      funext a
      apply Fin.ext
      match a with
      | ⟨0, _⟩ => show d.val = 0 + 1 * d.val; omega
      | ⟨1, _⟩ => show k.val = 0 + 1 * k.val; omega
    rw [hy, View.canon_cons_emb, pay46_apply]
  · rw [dif_neg h]
    refine (View.canon_cons_of_not_mem _ _ fun hm => ?_).trans ?_
    · have h0 : 0 ≤ d.val ∧ d.val < 0 + 128 := (Rect.mem_set_unit (inb := inb_S144x2048_S128x2048_0_0).mp hm) 0
      omega
    have hd : d.val - 128 < 16 := by have := d.isLt; omega
    have hy : (ix2 d k : S144x2048.Idx) = (Rect.unit (s := S144x2048) ![128, 0] S16x2048.size inb_S144x2048_S16x2048_128_0).emb (ix2 ⟨d.val - 128, hd⟩ k) := by
      funext a
      apply Fin.ext
      match a with
      | ⟨0, _⟩ => show d.val = 128 + 1 * (d.val - 128); omega
      | ⟨1, _⟩ => show k.val = 0 + 1 * k.val; omega
    rw [hy, View.canon_cons_emb, pay45_apply]

/-- The transposed values and the rows of ones, at the first point of a run. -/
theorem valsA_apply (arg10 : Memref sig .tc .vmem S144x2048 .bf16) (x2 : Vec Ideal S1x2048x128 .bf16) (d : Fin 144) (k : Fin 2048) :
    valsA (F := Ideal) arg10 x2 (ix2 d k) = if h : d.val < 128 then x2 (ix3 0 k ⟨d.val, h⟩) else (1 : EReal) := by
  rw [valsA, View.readCov_eq_canon']
  have e : (Rect.unit (s := S144x2048) ![0, 0] S144x2048.size inb_S144x2048_S144x2048_0_0).toLoadRect.idx (ix2 d k) = (ix2 d k : S144x2048.Idx) := by
    funext a
    apply Fin.ext
    match a with
    | ⟨0, _⟩ => show 0 + 1 * d.val = d.val; omega
    | ⟨1, _⟩ => show 0 + 1 * k.val = k.val; omega
  show View.canon _ ((Rect.unit (s := S144x2048) ![0, 0] S144x2048.size inb_S144x2048_S144x2048_0_0).toLoadRect.idx (ix2 d k)) = _
  rw [e]
  exact fillA_apply x2 d k

theorem vals_apply (arg10 : Memref sig .tc .vmem S144x2048 .bf16) (harg10 : arg10.IsWhole) (x2 : Vec Ideal S1x2048x128 .bf16)
    (xs2 : Vec Ideal S144x2048 .bf16) (d : Fin 144) (k : Fin 2048) :
    View.read (Elt Ideal) arg10.view (arg10.view.writes (Elt Ideal) (harg10.unread xs2)
        [⟨Rect.unit ![0, 0] ![128, 2048] inb_S144x2048_S128x2048_0_0, k0_pay46 x2⟩]) (ix2 d k)
      = if h : d.val < 128 then x2 (ix3 0 k ⟨d.val, h⟩) else xs2 (ix2 d k) := by
  by_cases h : d.val < 128
  · rw [dif_pos h]
    refine (View.read_writes_cons_rows_of_mem (d := ![144, 2048]) arg10.view (harg10.unread xs2) (o := 0)
      inb_S144x2048_S128x2048_0_0 (k0_pay46 (F := Ideal) x2) [] (ix2 d k) (ix2 ⟨d.val, h⟩ k) rfl ?_ ?_).trans (pay46_apply x2 ⟨d.val, h⟩ k)
    · show d.val = 0 + d.val; omega
    · rfl
  · rw [dif_neg h]
    refine (View.read_writes_cons_rows_of_not_mem (d := ![144, 2048]) arg10.view (harg10.unread xs2) (o := 0) (W := 128)
      inb_S144x2048_S128x2048_0_0 (k0_pay46 (F := Ideal) x2) [] (ix2 d k) rfl rfl (.inr ?_)).trans ?_
    · show 0 + 128 ≤ d.val; omega
    · exact congrFun (harg10.read_unread xs2) _

end Cert.KernelIdeal.Step

end
-- ==== Proof.Blocks.lean ====
/- What the three input windows load at a grid point, as entries of the scaled projection; and the carried scratches
   along the grid. -/
module

public import proofs.«01_k».proof.Proof.Reads

@[expose] public section

set_option maxRecDepth 16384

noncomputable section

namespace Cert.KernelIdeal.Step

open Cert.KernelIdeal Cert.KernelIdeal.Gen Cert.KernelIdeal.Value Cert.KernelIdeal.Chain Idealize.ShloMosaic Idealize.SL.Sem Idealize.ShloMosaic.TcCoe

variable (m : (ℓ : Loc nD τ sig) → Buf (Elt Ideal) ℓ) (c : Dev nD)

/-- The array the three windows read: the projection, scaled. -/
def projArr : S1x16384x9216.Idx → EReal := V m c main_v11

/-- Its entry at natural coordinates. -/
def entry (s col : ℕ) : EReal := if h : s < 16384 ∧ col < 9216 then projArr m c (ix3 0 ⟨s, h.1⟩ ⟨col, h.2⟩) else 0

theorem entry_of (s col : ℕ) (hs : s < 16384) (hc : col < 9216) : entry m c s col = projArr m c (ix3 0 ⟨s, hs⟩ ⟨col, hc⟩) := dif_pos ⟨hs, hc⟩

theorem idx0 : ∀ t : Fin cfg0.N, win0_0.index t (0 : Fin 3) = 0 ∧ win0_0.index t (1 : Fin 3) = t.val / 8 % 8 ∧ win0_0.index t (2 : Fin 3) = 6 + t.val / 64 :=
  (by decide +kernel : ∀ t : Fin grid0.N, _)

theorem idx1 : ∀ t : Fin cfg0.N, win0_1.index t (0 : Fin 3) = 0 ∧ win0_1.index t (1 : Fin 3) = t.val % 8 ∧ win0_1.index t (2 : Fin 3) = 40 + t.val / 64 :=
  (by decide +kernel : ∀ t : Fin grid0.N, _)

theorem idx2 : ∀ t : Fin cfg0.N, win0_2.index t (0 : Fin 3) = 0 ∧ win0_2.index t (1 : Fin 3) = t.val % 8 ∧ win0_2.index t (2 : Fin 3) = 44 + t.val / 64 :=
  (by decide +kernel : ∀ t : Fin grid0.N, _)

theorem lt_N (t : Fin cfg0.N) : t.val < 256 := lt_of_lt_of_eq t.isLt (show cfg0.N = 256 from N_0)

theorem blk0 (t : Fin cfg0.N) (a : Fin 2048) (b : Fin 512) :
    iblk m c 0 t (ix3 0 a b) = entry m c (2048 * (t.val / 8 % 8) + a.val) (3072 + 512 * (t.val / 64) + b.val) := by
  have ht := lt_N t
  rw [entry_of _ _ _ _ (by omega) (by omega)]
  obtain ⟨e0, e1, e2⟩ := idx0 t
  refine congrArg (projArr m c) (funext fun i => Fin.ext ?_)
  match i with
  | ⟨0, _⟩ => show win0_0.index t (0 : Fin 3) * 1 + 1 * 0 = 0; omega
  | ⟨1, _⟩ => show win0_0.index t (1 : Fin 3) * 2048 + 1 * a.val = 2048 * (t.val / 8 % 8) + a.val; omega
  | ⟨2, _⟩ => show win0_0.index t (2 : Fin 3) * 512 + 1 * b.val = 3072 + 512 * (t.val / 64) + b.val; omega

theorem blk1 (t : Fin cfg0.N) (a : Fin 2048) (b : Fin 128) :
    iblk m c 1 t (ix3 0 a b) = entry m c (2048 * (t.val % 8) + a.val) (5120 + 128 * (t.val / 64) + b.val) := by
  have ht := lt_N t
  rw [entry_of _ _ _ _ (by omega) (by omega)]
  obtain ⟨e0, e1, e2⟩ := idx1 t
  refine congrArg (projArr m c) (funext fun i => Fin.ext ?_)
  match i with
  | ⟨0, _⟩ => show win0_1.index t (0 : Fin 3) * 1 + 1 * 0 = 0; omega
  | ⟨1, _⟩ => show win0_1.index t (1 : Fin 3) * 2048 + 1 * a.val = 2048 * (t.val % 8) + a.val; omega
  | ⟨2, _⟩ => show win0_1.index t (2 : Fin 3) * 128 + 1 * b.val = 5120 + 128 * (t.val / 64) + b.val; omega

theorem blk2 (t : Fin cfg0.N) (a : Fin 2048) (b : Fin 128) :
    iblk m c 2 t (ix3 0 a b) = entry m c (2048 * (t.val % 8) + a.val) (5632 + 128 * (t.val / 64) + b.val) := by
  have ht := lt_N t
  rw [entry_of _ _ _ _ (by omega) (by omega)]
  obtain ⟨e0, e1, e2⟩ := idx2 t
  refine congrArg (projArr m c) (funext fun i => Fin.ext ?_)
  match i with
  | ⟨0, _⟩ => show win0_2.index t (0 : Fin 3) * 1 + 1 * 0 = 0; omega
  | ⟨1, _⟩ => show win0_2.index t (1 : Fin 3) * 2048 + 1 * a.val = 2048 * (t.val % 8) + a.val; omega
  | ⟨2, _⟩ => show win0_2.index t (2 : Fin 3) * 128 + 1 * b.val = 5632 + 128 * (t.val / 64) + b.val; omega

/-- The queries' and keys' entries as reals. -/
def entryR (s col : ℕ) : ℝ := (entry m c s col).toReal

/-- The scores of a run: run `u` is group `u / 8`, query rows of block `u % 8`. -/
def runX (u : ℕ) (ch : Fin 32) (l : Fin 256) (j : ℕ) : ℝ :=
  ∑ d : Fin 128, entryR m c j (5120 + 128 * (u / 8) + d.val)
    * entryR m c (2048 * (u % 8) + (256 * (ch.val % 8) + l.val)) (3072 + 512 * (u / 8) + (128 * (ch.val / 8) + d.val))

/-- The values of a run, and the rows of ones under them. -/
def runW (u : ℕ) (d : Fin 144) (j : ℕ) : EReal := if d.val < 128 then entry m c j (5632 + 128 * (u / 8) + d.val) else 1

/-- The queries and keys are real. -/
def RealQK : Prop := ∀ s col, 3072 ≤ col → col < 5632 → entry m c s col = (entryR m c s col : EReal)

theorem scores_run (hR : RealQK m c) (t : Fin cfg0.N) (ch : Fin 32) (l : Fin 256) (k : Fin 2048) :
    scores (F := Ideal) (iblk m c 1 t) (chainQ (F := Ideal) (iblk m c 0 t) ch) (ix2 k l) = (runX m c (t.val / 8) ch l (2048 * (t.val % 8) + k.val) : EReal) := by
  have ht := lt_N t
  rw [scores_apply, runX, Online.coe_sum]
  refine Finset.sum_congr rfl fun d _ => ?_
  rw [chainQ_apply, blk0, blk1, EReal.coe_mul, show t.val / 8 / 8 = t.val / 64 by omega, hR _ _ (by omega) (by omega), hR _ _ (by omega) (by omega)]

theorem vals_run (t : Fin cfg0.N) (d : Fin 144) (k : Fin 2048) (h : d.val < 128) :
    iblk m c 2 t (ix3 0 k ⟨d.val, h⟩) = runW m c (t.val / 8) d (2048 * (t.val % 8) + k.val) := by
  rw [blk2, runW, if_pos h, show t.val / 8 / 8 = t.val / 64 by omega]

/-- What the scratches hold after point `t`. -/
def After (t : Fin cfg0.N) : Prop :=
  Inv (runX m c (t.val / 8)) (runW m c (t.val / 8)) (2048 * (t.val % 8) + 2048) (outsAt0 m c t.val t.isLt).2.1 (outsAt0 m c t.val t.isLt).2.2.1
    ∧ ∀ (d : Fin 144) (k : Fin 2048), 128 ≤ d.val → (outsAt0 m c t.val t.isLt).2.2.2 (ix2 d k) = (1 : EReal)

theorem after_first (hR : RealQK m c) (t : Fin cfg0.N) (h0 : t.val % 8 = 0) : After m c t := by
  have h1 : ¬t.val % 8 = 7 := by omega
  unfold After
  rw [outsAt0_A m c t h0 h1]
  dsimp only
  rw [maxA, accA, valA, h0, Nat.mul_zero, Nat.zero_add]
  refine ⟨inv_append _ _ _ _ _ _ _ (inv_first _ _ _ (iblk m c 0 t) (iblk m c 1 t) (fun ch l k => ?_) fun d k => ?_), fun d k hd => ?_⟩
  · rw [scores_run m c hR t ch l k, h0, Nat.mul_zero, Nat.zero_add]
  · rw [valsA_apply]
    split
    · next h => rw [vals_run m c t d k h, h0, Nat.mul_zero, Nat.zero_add]
    · next h => rw [runW, if_neg h]
  · rw [fillA_apply, dif_neg (by omega)]

theorem after_next (hR : RealQK m c) (t t' : Fin cfg0.N) (ht : t'.val = t.val + 1) (h0 : ¬t'.val % 8 = 0) (h : After m c t) : After m c t' := by
  obtain ⟨hi, ho⟩ := h
  have e1 : t'.val / 8 = t.val / 8 := by omega
  have e2 : 2048 * (t.val % 8) + 2048 = 2048 * (t'.val % 8) := by omega
  have e3 : outsAt0 m c (t'.val - 1) (Nat.lt_of_le_of_lt (Nat.sub_le _ _) t'.isLt) = outsAt0 m c t.val t.isLt := by
    congr 1; omega
  rw [← e1, e2] at hi
  unfold After
  by_cases h1 : t'.val % 8 = 7
  · rw [outsAt0_C m c t' h0 h1]
    dsimp only
    rw [maxC, accC, valC, e3]
    refine ⟨inv_next _ _ _ _ (iblk m c 0 t') (iblk m c 1 t') _ _ (fun ch l k => scores_run m c hR t' ch l k) (fun d k => ?_) hi, fun d k hd => ?_⟩
    · rw [vals_apply]
      split
      · next h => exact vals_run m c t' d k h
      · next h => rw [runW, if_neg h, ho d k (by omega)]
    · rw [vals_apply, dif_neg (by omega), ho d k hd]
  · rw [outsAt0_B m c t' h0 h1]
    dsimp only
    rw [maxB, accB, valB, e3]
    refine ⟨inv_next _ _ _ _ (iblk m c 0 t') (iblk m c 1 t') _ _ (fun ch l k => scores_run m c hR t' ch l k) (fun d k => ?_) hi, fun d k hd => ?_⟩
    · rw [vals_apply]
      split
      · next h => exact vals_run m c t' d k h
      · next h => rw [runW, if_neg h, ho d k (by omega)]
    · rw [vals_apply, dif_neg (by omega), ho d k hd]

theorem after_all (hR : RealQK m c) : ∀ (n : ℕ) (hn : n < cfg0.N), After m c ⟨n, hn⟩
  | 0, hn => after_first m c hR ⟨0, hn⟩ rfl
  | n + 1, hn => by
    by_cases h : (n + 1) % 8 = 0
    · exact after_first m c hR ⟨n + 1, hn⟩ h
    · exact after_next m c hR ⟨n, by omega⟩ ⟨n + 1, hn⟩ rfl h (after_all hR n (by omega))

end Cert.KernelIdeal.Step

end
-- ==== Proof.Final.lean ====
/- What the kernel leaves in its result array: at every row and column, the softmax-weighted sum of the values. -/
module

public import proofs.«01_k».proof.Proof.Blocks

@[expose] public section

set_option maxRecDepth 16384

noncomputable section

namespace Cert.KernelIdeal.Step

open Cert.KernelIdeal Cert.KernelIdeal.Gen Cert.KernelIdeal.Value Cert.KernelIdeal.Chain Idealize.ShloMosaic Idealize.SL.Sem Idealize.ShloMosaic.TcCoe

variable (m : (ℓ : Loc nD τ sig) → Buf (Elt Ideal) ℓ) (c : Dev nD)

/-- The output block written back at the last point of a run. -/
theorem out_last (hR : RealQK m c) (t : Fin cfg0.N) (h1 : t.val % 8 = 7) (ch : Fin 32) (l : Fin 256) (d : Fin 128)
    (y : ℕ → ℝ) (hy : ∀ j, runX m c (t.val / 8) ch l j = y j / Real.log 2) :
    (outsAt0 m c t.val t.isLt).1 (ix3 0 ⟨256 * (ch.val % 8) + l.val, by omega⟩ ⟨128 * (ch.val / 8) + d.val, by omega⟩)
      = ∑ k ∈ Finset.range 16384, entry m c k (5632 + 128 * (t.val / 64) + d.val)
          * ((Real.exp (y k) / ∑ j ∈ Finset.range 16384, Real.exp (y j) : ℝ) : EReal) := by
  have h0 : ¬t.val % 8 = 0 := by omega
  have ha := (after_all m c hR t.val t.isLt).1
  rw [outsAt0_C m c t h0 h1] at ha ⊢
  dsimp only at ha ⊢
  rw [maxC, accC] at ha
  rw [outC, readO, outRows_apply]
  have hh := ha ch l
  simp only [readA] at hh
  have e := Online.holds_last _ y hy _ _ (by omega) _ _ hh ⟨d.val, by omega⟩ 128 (fun k _ => rfl)
  rw [show 2048 * (t.val % 8) + 2048 = 16384 by omega] at e
  refine e.trans ?_
  refine Finset.sum_congr rfl fun k _ => ?_
  rw [runW, if_pos d.isLt, show t.val / 8 / 8 = t.val / 64 by omega]

/-- The result at query row `s` and column `col`. -/
theorem result_apply (hR : RealQK m c) (s : Fin 16384) (col : Fin 2048)
    (y : ℕ → ℝ) (hy : ∀ j, runX m c (s.val / 2048 + 8 * (col.val / 512)) ⟨s.val % 2048 / 256 + 8 * (col.val % 512 / 128), by omega⟩ ⟨s.val % 256, by omega⟩ j = y j / Real.log 2) :
    G3 m c (ix3 0 s col)
      = ∑ k ∈ Finset.range 16384, entry m c k (5632 + 128 * (col.val / 512) + col.val % 128)
          * ((Real.exp (y k) / ∑ j ∈ Finset.range 16384, Real.exp (y j) : ℝ) : EReal) := by
  have hr : run3Of (ix3 0 s col) = s.val / 2048 + 8 * (col.val / 512) := by
    show 1 * (0 / 1 - 0) + 1 * (s.val / 2048 - 0) + 8 * (col.val / 512 - 0) = _
    omega
  have hp : pt3Of (ix3 0 s col) < cfg0.N := by
    have hN : cfg0.N = 256 := N_0
    show 8 * run3Of (ix3 0 s col) + 7 < cfg0.N
    rw [hr, hN]; omega
  have hl : loc3Of (ix3 0 s col) = ix3 0 ⟨256 * ((s.val % 2048 / 256 + 8 * (col.val % 512 / 128)) % 8) + s.val % 256, by omega⟩
      ⟨128 * ((s.val % 2048 / 256 + 8 * (col.val % 512 / 128)) / 8) + col.val % 128, by omega⟩ := by
    funext a
    apply Fin.ext
    match a with
    | ⟨0, _⟩ => rfl
    | ⟨1, _⟩ => show s.val % 2048 = 256 * ((s.val % 2048 / 256 + 8 * (col.val % 512 / 128)) % 8) + s.val % 256; omega
    | ⟨2, _⟩ => show col.val % 512 = 128 * ((s.val % 2048 / 256 + 8 * (col.val % 512 / 128)) / 8) + col.val % 128; omega
  have e8 : pt3Of (ix3 0 s col) / 8 = s.val / 2048 + 8 * (col.val / 512) := by
    show (8 * run3Of (ix3 0 s col) + 7) / 8 = _
    rw [hr]; omega
  have e7 : pt3Of (ix3 0 s col) % 8 = 7 := by
    show (8 * run3Of (ix3 0 s col) + 7) % 8 = _
    omega
  have e64 : pt3Of (ix3 0 s col) / 64 = col.val / 512 := by
    show (8 * run3Of (ix3 0 s col) + 7) / 64 = _
    rw [hr]; omega
  unfold G3
  rw [dif_pos hp, ← outsAt0_sweep m c _ hp, hl]
  refine (out_last m c hR ⟨pt3Of (ix3 0 s col), hp⟩ e7 ⟨s.val % 2048 / 256 + 8 * (col.val % 512 / 128), by omega⟩ ⟨s.val % 256, by omega⟩
    ⟨col.val % 128, by omega⟩ y (fun j => ?_)).trans ?_
  · show runX m c (pt3Of (ix3 0 s col) / 8) _ _ j = _
    rw [e8]; exact hy j
  · show (∑ k ∈ Finset.range 16384, entry m c k (5632 + 128 * (pt3Of (ix3 0 s col) / 64) + col.val % 128) * _) = _
    rw [e64]

end Cert.KernelIdeal.Step

end
-- ==== Proof.Reference.lean ====
module
public import proofs.«01_k».proof.Proof.Gen.ReferenceIdeal.Run
public import proofs.«01_k».proof.Proof.Online
public import Idealize.ShloMosaic.Lib.Tactic.ValueTie
@[expose] public section
set_option maxRecDepth 16384
noncomputable section
namespace Cert.ReferenceIdeal.Stages
open Cert.ReferenceIdeal Cert.ReferenceIdeal.Gen Idealize.ShloMosaic Idealize.ShloMosaic.TcCoe Idealize.SL.Sem

theorem bot_bits : Ideal.ofBits .f32 0xFF800000#32 = (⊥ : EReal) := by simp [Ideal.ofBits, Ideal.ieee]

/-- The larger of a constant and an array, at an index. -/
theorem max_splat {t u : Shape} (dims : Fin u.rank → Fin t.rank) (hb : u.BroadcastsInDim t dims) (b : BitVec FTy.f32.bits) (Y : FVec Ideal t .f32) (i : t.Idx) :
    maximumf (broadcastInDim t dims hb (constant (F := Ideal) u .f32 b)) Y i = max (Ideal.ofBits .f32 b) (Y i) := rfl

/-- Dropping the last of five coordinates. -/
theorem drop_last {a b c d e : ℕ} (h : (⟨5, ![a, b, c, d, e]⟩ : Shape).ReducesTo [4] ⟨4, ![a, b, c, d]⟩)
    (i : Fin a) (j : Fin b) (k : Fin c) (l : Fin d) (o : Fin e) : h.drop (ix5 i j k l o) = ix4 i j k l := by
  funext x
  fin_cases x <;> rfl

/-- The largest of some real numbers along the last of five axes is real. -/
theorem largest_real {a b c d e : ℕ} {u : Shape} (h : (⟨5, ![a, b, c, d, e]⟩ : Shape).ReducesTo [4] ⟨4, ![a, b, c, d]⟩)
    (X : (⟨5, ![a, b, c, d, e]⟩ : Shape).Idx → EReal) (hX : ∀ i, ∃ r : ℝ, X i = (r : EReal)) (z : u.Idx → EReal) {y : EReal} (hy : y = (⊥ : EReal)) (hz : ∀ i, z i = y) (hu : 0 < u.numel)
    (i : Fin a) (j : Fin b) (k : Fin c) (l : Fin d) (o : Fin e) :
    ∃ μ : ℝ, Host.reduce (FloatOps.maximumf (F := Ideal) (φ := .f32)) X z h hu (ix4 i j k l) = (μ : EReal) := by
  have hf := Host.reduce_eq_fold (α := EReal) max X z h hu (ix4 i j k l)
  rw [hz, hy] at hf
  obtain ⟨p, -, hp⟩ := Finset.exists_mem_eq_sup (Finset.univ.filter fun i' => h.drop i' = ix4 i j k l)
    ⟨ix5 i j k l o, Finset.mem_filter.2 ⟨Finset.mem_univ _, drop_last h i j k l o⟩⟩ X
  obtain ⟨r, hr⟩ := hX p
  exact ⟨r, hf.trans (hp.trans hr)⟩

/-- The scaled scores of every query against every key, of the projections `A`. -/
def scaled (A : FVec Ideal S1x16384x9216 .f32) : FVec Ideal S1x4x4x16384x16384 .f32 :=
  mulf (transpose S1x4x4x16384x16384 [0, 1, 4, 3, 2] (Host.dotGeneral dot_S1x16384x4x128_S1x16384x4x4x128_S1x4x16384x16384x4_3_4_1_13_02_02 none (shapeCast _ (extractStridedSlice S1x16384x512 ![0, 0, 5120] A slices_S1x16384x9216_S1x16384x512_0_0_5120) shapeCasts_S1x16384x512_S1x16384x4x128) (shapeCast _ (extractStridedSlice S1x16384x2048 ![0, 0, 3072] A slices_S1x16384x9216_S1x16384x2048_0_0_3072) shapeCasts_S1x16384x2048_S1x16384x4x4x128)) transposes_S1x4x16384x16384x4_S1x4x4x16384x16384_0_1_4_3_2) (broadcastInDim S1x4x4x16384x16384 ![] bcast_S_S1x4x4x16384x16384 (constant S_ .f32 0x3DB504F3#32))

/-- The largest entry of each row of `X`. -/
def rowMax (X : FVec Ideal S1x4x4x16384x16384 .f32) : FVec Ideal S1x4x4x16384 .f32 :=
  maximumf (broadcastInDim S1x4x4x16384 ![] bcast_S_S1x4x4x16384 (constant S_ .f32 0xFF800000#32)) (Host.reduce FloatOps.maximumf X (constant S_ .f32 0xFF800000#32) reducesTo_S1x4x4x16384x16384_S1x4x4x16384_d4 h_S_)

/-- The exponentials of `X` less the number `M` of each row. -/
def expOf (X : FVec Ideal S1x4x4x16384x16384 .f32) (M : FVec Ideal S1x4x4x16384 .f32) : FVec Ideal S1x4x4x16384x16384 .f32 :=
  Host.exp (subf X (broadcastInDim S1x4x4x16384x16384 ![0, 1, 2, 3, 4] bcast_S1x4x4x16384x1_S1x4x4x16384x16384_0_1_2_3_4 (broadcastInDim S1x4x4x16384x1 ![0, 1, 2, 3] bcast_S1x4x4x16384_S1x4x4x16384x1_0_1_2_3 M)))

/-- The sum of each row of `E`. -/
def rowSum (E : FVec Ideal S1x4x4x16384x16384 .f32) : FVec Ideal S1x4x4x16384 .f32 :=
  Host.reduceAdd E (constant S_ .f32 0x00000000#32) reducesTo_S1x4x4x16384x16384_S1x4x4x16384_d4 h_S_

/-- Each entry of `E` over the number `Z` of its row. -/
def share (E : FVec Ideal S1x4x4x16384x16384 .f32) (Z : FVec Ideal S1x4x4x16384 .f32) : FVec Ideal S1x4x4x16384x16384 .f32 :=
  Host.divf E (broadcastInDim S1x4x4x16384x16384 ![0, 1, 2, 3, 4] bcast_S1x4x4x16384x1_S1x4x4x16384x16384_0_1_2_3_4 (broadcastInDim S1x4x4x16384x1 ![0, 1, 2, 3] bcast_S1x4x4x16384_S1x4x4x16384x1_0_1_2_3 Z))

/-- The values of `A` summed with the weights `P`. -/
def mixed (A : FVec Ideal S1x16384x9216 .f32) (P : FVec Ideal S1x4x4x16384x16384 .f32) : FVec Ideal S1x16384x2048 .bf16 :=
  truncf .bf16 (shapeCast _ (transpose S1x16384x4x4x128 [0, 4, 1, 3, 2] (Host.dotGeneral dot_S1x16384x4x128_S1x4x4x16384x16384_S1x4x128x4x16384_1_4_3_23_02_01 none (shapeCast _ (extractStridedSlice S1x16384x512 ![0, 0, 5632] A slices_S1x16384x9216_S1x16384x512_0_0_5632) shapeCasts_S1x16384x512_S1x16384x4x128) P) transposes_S1x4x128x4x16384_S1x16384x4x4x128_0_4_1_3_2) shapeCasts_S1x16384x4x4x128_S1x16384x2048) bitsLt_bf16_f32

theorem res_eq (m : (ℓ : Loc nD τ sig) → Buf (Elt Ideal) ℓ) (c : Dev nD) :
    Value.res_main_v24 (F := Ideal) m c = mixed (m (c.tc.loc main_arg0))
      (share (expOf (scaled (m (c.tc.loc main_arg0))) (rowMax (scaled (m (c.tc.loc main_arg0)))))
        (rowSum (expOf (scaled (m (c.tc.loc main_arg0))) (rowMax (scaled (m (c.tc.loc main_arg0))))))) := by
  unfold Value.res_main_v24 mixed share rowSum expOf rowMax scaled
  rfl

variable (A : FVec Ideal S1x16384x9216 .f32) (X : FVec Ideal S1x4x4x16384x16384 .f32) (M : FVec Ideal S1x4x4x16384 .f32)
  (h g : Fin 4) (s j : Fin 16384) (col : Fin 2048)

theorem mixed_apply : mixed A X (ix3 0 s col)
    = ∑ k : Fin 16384, A (ix3 0 k ⟨5632 + (col.val / 512 * 128 + col.val % 128), by omega⟩) * X (ix5 0 ⟨col.val / 512, by omega⟩ ⟨col.val / 128 % 4, by omega⟩ s k) := by
  pointwise [mixed]

theorem share_apply : share X M (ix5 0 h g s j) = Ideal.div (X (ix5 0 h g s j)) (M (ix4 0 h g s)) := by
  pointwise [share]

theorem rowSum_apply : rowSum X (ix4 0 h g s) = ∑ k : Fin 16384, X (ix5 0 h g s k) := by
  pointwise [rowSum]

theorem expOf_apply : expOf X M (ix5 0 h g s j) = Ideal.exp (X (ix5 0 h g s j) - M (ix4 0 h g s)) := by
  pointwise [expOf]

theorem scaled_apply : scaled A (ix5 0 h g s j)
    = (∑ d : Fin 128, A (ix3 0 j ⟨5120 + (h.val * 128 + d.val), by omega⟩) * A (ix3 0 s ⟨3072 + (h.val * 512 + g.val * 128 + d.val), by omega⟩))
      * Ideal.ofBits .f32 0x3DB504F3#32 := by
  pointwise [scaled]

/-- The largest of a row of real numbers is real. -/
theorem rowMax_real (hX : ∀ i, ∃ r : ℝ, X i = (r : EReal)) : ∃ μ : ℝ, rowMax X (ix4 0 h g s) = (μ : EReal) := by
  obtain ⟨μ, e⟩ := largest_real (u := S_) reducesTo_S1x4x4x16384x16384_S1x4x4x16384_d4 X hX (constant (F := Ideal) S_ .f32 0xFF800000#32) bot_bits (fun _ => rfl) h_S_ 0 h g s s
  refine ⟨μ, ?_⟩
  unfold rowMax
  rw [max_splat, e, bot_bits, max_eq_right bot_le]

/-- An entry of the projections at natural coordinates. -/
def at2 (s col : ℕ) : EReal := if h : s < 16384 ∧ col < 9216 then A (ix3 0 ⟨s, h.1⟩ ⟨col, h.2⟩) else 0

theorem at2_of (s col : ℕ) (hs : s < 16384) (hc : col < 9216) : A (ix3 0 ⟨s, hs⟩ ⟨col, hc⟩) = at2 A s col := by
  unfold at2
  rw [dif_pos ⟨hs, hc⟩]

/-- The factor of the scores. -/
def factor : ℝ := (Ideal.ofBits .f32 0x3DB504F3#32).toReal

theorem factor_eq : Ideal.ofBits .f32 0x3DB504F3#32 = (factor : EReal) := by
  have h : ∃ r : ℝ, Ideal.ofBits .f32 0x3DB504F3#32 = (r : EReal) := by
    simp only [Ideal.ofBits, Ideal.ieee]
    norm_num
    exact ⟨_, (EReal.coe_mul _ _).symm⟩
  obtain ⟨r, h⟩ := h
  unfold factor
  rw [h, EReal.toReal_coe]

/-- The scaled score of query row `s` of column `col` against key `k`, over the reals. -/
def score (s col k : ℕ) : ℝ :=
  (∑ d : Fin 128, (at2 A k (5120 + (col / 512 * 128 + d.val))).toReal * (at2 A s (3072 + (col / 512 * 512 + col / 128 % 4 * 128 + d.val))).toReal) * factor

/-- The queries and keys of `A` are real. -/
def RealA : Prop := ∀ s col, 3072 ≤ col → col < 5632 → at2 A s col = ((at2 A s col).toReal : EReal)

theorem scaled_real (hA : RealA A) (h g : Fin 4) (s j : Fin 16384) : scaled A (ix5 0 h g s j)
    = (((∑ d : Fin 128, (at2 A j.val (5120 + (h.val * 128 + d.val))).toReal * (at2 A s.val (3072 + (h.val * 512 + g.val * 128 + d.val))).toReal) * factor : ℝ) : EReal) := by
  rw [scaled_apply, EReal.coe_mul, factor_eq, Online.coe_sum]
  refine congrArg (· * (factor : EReal)) (Finset.sum_congr rfl fun d _ => ?_)
  rw [EReal.coe_mul, ← hA _ _ (by omega) (by omega), ← hA _ _ (by omega) (by omega), ← at2_of _ _ _ j.isLt (by omega), ← at2_of _ _ _ s.isLt (by omega)]

theorem attention_apply (hA : RealA A) :
    mixed A (share (expOf (scaled A) (rowMax (scaled A))) (rowSum (expOf (scaled A) (rowMax (scaled A))))) (ix3 0 s col)
      = ∑ k ∈ Finset.range 16384, at2 A k (5632 + (col.val / 512 * 128 + col.val % 128))
          * ((Real.exp (score A s.val col.val k) / ∑ j ∈ Finset.range 16384, Real.exp (score A s.val col.val j) : ℝ) : EReal) := by
  have hX : ∀ i, ∃ r : ℝ, scaled A i = (r : EReal) := fun i => by
    obtain ⟨a, h, g, s, j, rfl⟩ : ∃ (a : Fin 1) (h g : Fin 4) (s j : Fin 16384), i = ix5 a h g s j :=
      ⟨i 0, i 1, i 2, i 3, i 4, by funext a; fin_cases a <;> rfl⟩
    obtain rfl : a = 0 := Subsingleton.elim _ _
    exact ⟨_, scaled_real A hA h g s j⟩
  obtain ⟨μ, hμ⟩ := rowMax_real (scaled A) ⟨col.val / 512, by omega⟩ ⟨col.val / 128 % 4, by omega⟩ s hX
  rw [mixed_apply]
  simp only [share_apply, rowSum_apply, expOf_apply]
  refine Eq.trans ?_ (Online.softmax_sum (N := 16384) (score A s.val col.val) (fun k => at2 A k (5632 + (col.val / 512 * 128 + col.val % 128)))
    (fun k => scaled A (ix5 0 ⟨col.val / 512, by omega⟩ ⟨col.val / 128 % 4, by omega⟩ s k)) (fun k => scaled_real A hA _ _ s k) _ μ hμ)
  refine Finset.sum_congr rfl fun k _ => ?_
  rw [at2_of A k.val _ k.isLt (by omega)]

end Cert.ReferenceIdeal.Stages

end
-- ==== Proof.Host.lean ====
/- The array the main call reads: the projections, the query columns scaled; and what the precondition gives of it. -/
module

public import proofs.«01_k».proof.Proof.Final
public import proofs.«01_k».proof.Proof.Reference
public import proofs.«01_k».proof.Defs
public import Idealize.ShloMosaic.Lib.Tactic.ValueTie

@[expose] public section

set_option maxRecDepth 16384

noncomputable section

namespace Cert.KernelIdeal.Step

open Cert.KernelIdeal Cert.KernelIdeal.Gen Idealize.ShloMosaic Idealize.SL.Sem Idealize.ShloMosaic.TcCoe
open Cert.ReferenceIdeal.Stages (at2 at2_of factor factor_eq score RealA)

/-- The number each column of the projections is multiplied by before the call. -/
def colScale : FVec Ideal S1x1x9216 .f32 :=
  select (andi (cmpi .sge (iotaInDim S1x1x9216 32 2) (broadcastInDim S1x1x9216 ![] bcast_S_S1x1x9216 (constantI S_ 32 3072#32)))
      (cmpi .slt (iotaInDim S1x1x9216 32 2) (broadcastInDim S1x1x9216 ![] bcast_S_S1x1x9216 (constantI S_ 32 5120#32))))
    (broadcastInDim S1x1x9216 ![] bcast_S_S1x1x9216 (Host.divf (constant S_ .f32 0x3DB504F3#32) (Host.log (constant S_ .f32 0x40000000#32))))
    (broadcastInDim S1x1x9216 ![] bcast_S_S1x1x9216 (constant S_ .f32 0x3F800000#32))

variable (m : (ℓ : Loc nD τ sig) → Buf (Elt Ideal) ℓ) (c : Dev nD)

theorem projArr_eq : projArr m c = truncf .bf16 (mulf (F := Ideal) (m (c.tc.loc main_arg0) : FVec Ideal S1x16384x9216 .f32)
    (broadcastInDim S1x16384x9216 ![0, 1, 2] bcast_S1x1x9216_S1x16384x9216_0_1_2 colScale)) bitsLt_bf16_f32 := by
  unfold projArr V
  simp only [hostOps0, hostOps0_1, hostOps0_2, List.flatten_cons, List.flatten_nil, List.cons_append, List.nil_append, List.append_nil]
  after_results_simp
  rfl

theorem in_range (n : ℕ) (hn : n < 9216) :
    IntOp.andi (IntOp.cmpi .sge (BitVec.ofNat 32 n) 3072#32) (IntOp.cmpi .slt (BitVec.ofNat 32 n) 5120#32) = if 3072 ≤ n ∧ n < 5120 then 1#1 else 0#1 := by
  have h : (BitVec.ofNat 32 n).toInt = n := by
    rw [BitVec.toInt_eq_toNat_of_lt] <;> rw [BitVec.toNat_ofNat, Nat.mod_eq_of_lt (by omega)]
    omega
  have e1 : IntOp.cmpi .sge (BitVec.ofNat 32 n) 3072#32 = BitVec.ofBool (decide (3072 ≤ n)) := by
    show BitVec.ofBool (BitVec.sle 3072#32 (BitVec.ofNat 32 n)) = _
    rw [BitVec.sle, h, show (3072#32).toInt = 3072 by decide]
    exact congrArg BitVec.ofBool (decide_eq_decide.2 (by omega))
  have e2 : IntOp.cmpi .slt (BitVec.ofNat 32 n) 5120#32 = BitVec.ofBool (decide (n < 5120)) := by
    show BitVec.ofBool (BitVec.slt (BitVec.ofNat 32 n) 5120#32) = _
    rw [BitVec.slt, h, show (5120#32).toInt = 5120 by decide]
    exact congrArg BitVec.ofBool (decide_eq_decide.2 (by omega))
  rw [e1, e2]
  by_cases h1 : 3072 ≤ n <;> by_cases h2 : n < 5120 <;> simp [h1, h2, IntOp.andi]

theorem two_eq : Ideal.ofBits .f32 0x40000000#32 = ((2 : ℝ) : EReal) := by
  simp [Ideal.ofBits, Ideal.ieee]
  rw [← EReal.coe_mul]
  norm_num

theorem log_two_ne : Real.log 2 ≠ 0 := (Real.log_pos (by norm_num)).ne'

theorem scale_eq : Ideal.div (Ideal.ofBits .f32 0x3DB504F3#32) (Ideal.log (Ideal.ofBits .f32 0x40000000#32)) = ((factor / Real.log 2 : ℝ) : EReal) := by
  rw [two_eq, Ideal.log_coe, if_neg (by norm_num), factor_eq, Ideal.div_coe log_two_ne, ← EReal.coe_mul, mul_one_div]

theorem colScale_apply (col : Fin 9216) :
    colScale (ix3 0 0 col) = if 3072 ≤ col.val ∧ col.val < 5120 then ((factor / Real.log 2 : ℝ) : EReal) else 1 := by
  have e : colScale (ix3 0 0 col) = Scalar.select
      (IntOp.andi (IntOp.cmpi .sge (BitVec.ofNat 32 col.val) 3072#32) (IntOp.cmpi .slt (BitVec.ofNat 32 col.val) 5120#32))
      (Ideal.div (Ideal.ofBits .f32 0x3DB504F3#32) (Ideal.log (Ideal.ofBits .f32 0x40000000#32))) (1 : EReal) := by
    pointwise [colScale]
  rw [e, in_range _ col.isLt, scale_eq]
  split_ifs <;> rfl

theorem scaled_entry (A : FVec Ideal S1x16384x9216 .f32) (S : FVec Ideal S1x1x9216 .f32) (s : Fin 16384) (col : Fin 9216) :
    (truncf .bf16 (mulf A (broadcastInDim S1x16384x9216 ![0, 1, 2] bcast_S1x1x9216_S1x16384x9216_0_1_2 S)) bitsLt_bf16_f32 : FVec Ideal S1x16384x9216 .bf16) (ix3 0 s col)
      = A (ix3 0 s col) * S (ix3 0 0 col) := by
  pointwise

/-- An entry of the array the call reads. -/
theorem entry_eq (s col : ℕ) (hs : s < 16384) (hc : col < 9216) : entry m c s col
    = at2 (m (c.tc.loc main_arg0)) s col * if 3072 ≤ col ∧ col < 5120 then ((factor / Real.log 2 : ℝ) : EReal) else 1 := by
  rw [entry_of m c s col hs hc, projArr_eq, scaled_entry, colScale_apply, at2_of (m (c.tc.loc main_arg0)) s col hs hc]

/-- A real number at every column, once so at those of the array. -/
theorem real_entries (hA : RealA (m (c.tc.loc main_arg0))) : RealQK m c := fun s col h1 h2 => by
  by_cases hs : s < 16384
  · unfold entryR
    rw [entry_eq m c s col hs (by omega), hA s col h1 h2]
    split_ifs
    · rw [← EReal.coe_mul, EReal.toReal_coe]
    · rw [mul_one, EReal.toReal_coe]
  · have h0 : entry m c s col = 0 := dif_neg fun h => hs h.1
    unfold entryR
    rw [h0]; rfl

theorem entryR_q (hA : RealA (m (c.tc.loc main_arg0))) (s col : ℕ) (hs : s < 16384) (h1 : 3072 ≤ col) (h2 : col < 5120) :
    entryR m c s col = (at2 (m (c.tc.loc main_arg0)) s col).toReal * (factor / Real.log 2) := by
  unfold entryR
  rw [entry_eq m c s col hs (by omega), if_pos ⟨h1, h2⟩, hA s col h1 (by omega), ← EReal.coe_mul, EReal.toReal_coe, EReal.toReal_coe]

theorem entryR_k (s col : ℕ) (h1 : 5120 ≤ col) (h2 : col < 9216) :
    entryR m c s col = (at2 (m (c.tc.loc main_arg0)) s col).toReal := by
  unfold entryR
  by_cases hs : s < 16384
  · rw [entry_eq m c s col hs h2, if_neg (by omega), mul_one]
  · have e1 : entry m c s col = 0 := dif_neg fun h => hs h.1
    have e2 : at2 (m (c.tc.loc main_arg0)) s col = 0 := dif_neg fun h => hs h.1
    rw [e1, e2]

/-- The kernel's score is the plain one over the logarithm of two. -/
theorem run_score (hA : RealA (m (c.tc.loc main_arg0))) (s : Fin 16384) (col : Fin 2048) (j : ℕ) :
    runX m c (s.val / 2048 + 8 * (col.val / 512)) ⟨s.val % 2048 / 256 + 8 * (col.val % 512 / 128), by omega⟩ ⟨s.val % 256, by omega⟩ j
      = score (m (c.tc.loc main_arg0)) s.val col.val j / Real.log 2 := by
  unfold runX score
  rw [Finset.sum_mul, Finset.sum_div]
  refine Finset.sum_congr rfl fun d _ => ?_
  have h1 : (s.val / 2048 + 8 * (col.val / 512)) / 8 = col.val / 512 := by omega
  have h2 : (s.val / 2048 + 8 * (col.val / 512)) % 8 = s.val / 2048 := by omega
  have h3 : (s.val % 2048 / 256 + 8 * (col.val % 512 / 128)) / 8 = col.val % 512 / 128 := by omega
  have h4 : (s.val % 2048 / 256 + 8 * (col.val % 512 / 128)) % 8 = s.val % 2048 / 256 := by omega
  dsimp only
  rw [h1, h2, h3, h4]
  rw [show 2048 * (s.val / 2048) + (256 * (s.val % 2048 / 256) + s.val % 256) = s.val by omega,
    show 3072 + 512 * (col.val / 512) + (128 * (col.val % 512 / 128) + d.val) = 3072 + (col.val / 512 * 512 + col.val / 128 % 4 * 128 + d.val) by omega,
    show 5120 + 128 * (col.val / 512) + d.val = 5120 + (col.val / 512 * 128 + d.val) by omega,
    entryR_k m c _ _ (by omega) (by omega), entryR_q m c hA _ _ s.isLt (by omega) (by omega)]
  ring

theorem infinite_abs (x : EReal) (h : x = ⊤ ∨ x = ⊥) : FloatOps.absf (F := Ideal) (φ := .f32) x = (⊤ : EReal) := by
  show max x (-x) = ⊤
  rcases h with rfl | rfl <;> simp

/-- The precondition makes the queries and keys real. -/
theorem real_of_pre [Cert.Pre_finite_queries_and_keys.Facts] (A : FVec Ideal S1x16384x9216 .f32)
    (h : Cert.Pre_finite_queries_and_keys.fn (F := Ideal) A = fun _ => 1#1) : RealA A := fun s col h1 h2 => by
  by_cases hs : s < 16384
  · have e : Cert.Pre_finite_queries_and_keys.fn (F := Ideal) A (ix3 0 ⟨s, hs⟩ ⟨col - 3072, by omega⟩)
        = BitVec.ofBool (decide ((FloatOps.absf (F := Ideal) (φ := .f32) (A (ix3 0 ⟨s, hs⟩ ⟨3072 + (col - 3072), by omega⟩)) : EReal) < Ideal.ofBits .f32 0x7F800000#32)) := by
      pointwise [Cert.Pre_finite_queries_and_keys.fn]
    have hb : Ideal.ofBits .f32 0x7F800000#32 = (⊤ : EReal) := by simp [Ideal.ofBits, Ideal.ieee]
    rw [h, hb, at2_of A s _ hs (by omega), show 3072 + (col - 3072) = col by omega] at e
    refine (EReal.coe_toReal ?_ ?_).symm
    · intro ht
      rw [ht, infinite_abs] at e
      · simp at e
      · simp
    · intro ht
      rw [ht, infinite_abs] at e
      · simp at e
      · simp
  · have h0 : at2 A s col = 0 := dif_neg fun h => hs h.1
    rw [h0]; rfl

end Cert.KernelIdeal.Step

end
-- ==== Proof.Attention.lean ====
/- The attention's two results are one array. -/
module

public import proofs.«01_k».proof.Proof.Host

@[expose] public section

set_option maxRecDepth 16384

noncomputable section

namespace Cert.KernelIdeal.Step

open Cert.KernelIdeal Cert.KernelIdeal.Gen Cert.KernelIdeal.Value Idealize.ShloMosaic Idealize.SL.Sem Idealize.ShloMosaic.TcCoe
open Cert.ReferenceIdeal.Stages (at2 score RealA attention_apply res_eq)

variable (m : (ℓ : Loc nD τ sig) → Buf (Elt Ideal) ℓ) (c : Dev nD)

/-- The kernel's entry is the softmax-weighted sum of the values. -/
theorem kernel_entry (hA : RealA (m (c.tc.loc main_arg0))) (s : Fin 16384) (col : Fin 2048) : G3 m c (ix3 0 s col)
    = ∑ k ∈ Finset.range 16384, at2 (m (c.tc.loc main_arg0)) k (5632 + (col.val / 512 * 128 + col.val % 128))
        * ((Real.exp (score (m (c.tc.loc main_arg0)) s.val col.val k) / ∑ j ∈ Finset.range 16384, Real.exp (score (m (c.tc.loc main_arg0)) s.val col.val j) : ℝ) : EReal) := by
  refine (result_apply m c (real_entries m c hA) s col (score (m (c.tc.loc main_arg0)) s.val col.val) (run_score m c hA s col)).trans ?_
  refine Finset.sum_congr (M := EReal) rfl fun k hk => ?_
  rw [entry_eq m c k _ (Finset.mem_range.1 hk) (by omega), if_neg (by omega), mul_one,
    show 5632 + 128 * (col.val / 512) + col.val % 128 = 5632 + (col.val / 512 * 128 + col.val % 128) by omega]

theorem results_agree [Cert.Pre_finite_queries_and_keys.Facts]
    (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m (c.tc.loc main_arg0))
    (hpre : Cert.Pre_finite_queries_and_keys.fn (F := Ideal) (m (c.tc.loc main_arg0)) = fun _ => 1#1) :
    Cert.ReferenceIdeal.Value.res_main_v24 (F := Ideal) m' c = G3 m c := by
  have hA := real_of_pre (m (c.tc.loc main_arg0)) hpre
  rw [res_eq, h]
  funext i
  obtain ⟨a, s, col, rfl⟩ : ∃ (a : Fin 1) (s : Fin 16384) (col : Fin 2048), i = ix3 a s col :=
    ⟨i 0, i 1, i 2, by funext a; fin_cases a <;> rfl⟩
  obtain rfl : a = 0 := Subsingleton.elim _ _
  exact (attention_apply _ s col hA).trans (kernel_entry m c hA s col).symm

end Cert.KernelIdeal.Step

end
-- ==== Proof.GateUp.lean ====
/- The gated feed-forward product: what the call leaves in its result array, and the reference's entry. -/
module

public import Idealize.ShloMosaic.Lib.Pointwise
public import Idealize.ShloMosaic.Lib.Tactic.ValueTie
public import proofs.«01_k».proof.Proof.Gen.Kernel2Ideal.Value
public import proofs.«01_k».proof.Proof.Gen.Reference2Ideal.Run

@[expose] public section

set_option maxRecDepth 16384

noncomputable section

namespace Cert.Kernel2Ideal.Step

open Cert.Kernel2Ideal Cert.Kernel2Ideal.Gen Cert.Kernel2Ideal.Value Idealize.ShloMosaic Idealize.SL.Sem Idealize.ShloMosaic.TcCoe

/-- One entry of a product of rows with a weight's columns. -/
def dotAt (X : FVec Ideal S16384x4096 .f32) (W : FVec Ideal S4096x11008 .f32) (s : Fin 16384) (f : Fin 11008) : EReal :=
  ∑ k : Fin 4096, X (ix2 s k) * W (ix2 k f)

/-- A gate's value passed through its activation, times the other branch. -/
def act (g u : EReal) : EReal := Ideal.div g (1 + Ideal.exp (0 - g)) * u

/-- The whole result. -/
def product (X : FVec Ideal S16384x4096 .f32) (Wg Wu : FVec Ideal S4096x11008 .f32) : FVec Ideal S16384x11008 .bf16 :=
  fun i => act (dotAt X Wg (i 0) (i 1)) (dotAt X Wu (i 0) (i 1))

/-- A weight cut into slabs of 256 columns. -/
def slabs (W : FVec Ideal S4096x11008 .f32) : FVec Ideal S43x4096x256 .bf16 :=
  truncf .bf16 (transpose S43x4096x256 [1, 0, 2] (shapeCast S4096x43x256 W shapeCasts_S4096x11008_S4096x43x256) transposes_S4096x43x256_S43x4096x256_1_0_2) bitsLt_bf16_f32

theorem slabs_apply (W : FVec Ideal S4096x11008 .f32) (j : Fin 43) (k : Fin 4096) (n : Fin 256) :
    slabs W (ix3 j k n) = W (ix2 k ⟨j.val * 256 + n.val, by omega⟩) := by
  pointwise [slabs]

/-- The rows in the width the call reads. -/
def narrow (X : FVec Ideal S16384x4096 .f32) : FVec Ideal S16384x4096 .bf16 := truncf .bf16 X bitsLt_bf16_f32

theorem zeros2 : (![0, 0] : Fin 2 → ℕ) = fun _ => 0 := by funext a; fin_cases a <;> rfl
theorem zeros3 : (![0, 0, 0] : Fin 3 → ℕ) = fun _ => 0 := by funext a; fin_cases a <;> rfl

theorem pay_apply (x0 : FVec Ideal S1024x4096 .bf16) (x1 x2 : FVec Ideal S1x4096x256 .bf16) (a : Fin 1024) (b : Fin 256) :
    k0_pay1 (F := Ideal) x0 x1 x2 (ix2 a b)
      = act (∑ k : Fin 4096, x0 (ix2 a k) * x1 (ix3 0 k b)) (∑ k : Fin 4096, x0 (ix2 a k) * x2 (ix3 0 k b)) := by
  unfold act
  pointwise [k0_pay1]

theorem out_eq (x0 : Vec Ideal S1024x4096 .bf16) (x1 x2 : Vec Ideal S1x4096x256 .bf16) : out0_3 (F := Ideal) x0 x1 x2 = k0_pay1 (F := Ideal) x0 x1 x2 := by
  unfold out0_3
  rw [View.canon_unit_zero zeros2, View.ld_unit_zero (S := S1024x4096) zeros2, View.ld_unit_zero (S := S1x4096x256) zeros3, View.ld_unit_zero (S := S1x4096x256) zeros3]

variable (m : (ℓ : Loc nD τ sig) → Buf (Elt Ideal) ℓ) (c : Dev nD)

theorem rows_eq : V m c main_v0 = narrow (m (c.tc.loc main_arg0)) := by
  unfold V narrow
  simp only [hostOps0, List.flatten_cons, List.flatten_nil, List.cons_append, List.nil_append, List.append_nil]
  after_results_simp

theorem gate_eq : V m c main_v3 = slabs (m (c.tc.loc main_arg1)) := by
  unfold V slabs
  simp only [hostOps0, List.flatten_cons, List.flatten_nil, List.cons_append, List.nil_append, List.append_nil]
  after_results_simp
  rfl

theorem up_eq : V m c main_v6 = slabs (m (c.tc.loc main_arg2)) := by
  unfold V slabs
  simp only [hostOps0, List.flatten_cons, List.flatten_nil, List.cons_append, List.nil_append, List.append_nil]
  after_results_simp
  rfl

theorem idx0 : ∀ t : Fin cfg0.N, win0_0.index t (0 : Fin 2) = t.val / 43 ∧ win0_0.index t (1 : Fin 2) = 0 :=
  (by decide +kernel : ∀ t : Fin grid0.N, _)

theorem idx1 : ∀ t : Fin cfg0.N, win0_1.index t (0 : Fin 3) = t.val % 43 ∧ win0_1.index t (1 : Fin 3) = 0 ∧ win0_1.index t (2 : Fin 3) = 0 :=
  (by decide +kernel : ∀ t : Fin grid0.N, _)

theorem idx2 : ∀ t : Fin cfg0.N, win0_2.index t (0 : Fin 3) = t.val % 43 ∧ win0_2.index t (1 : Fin 3) = 0 ∧ win0_2.index t (2 : Fin 3) = 0 :=
  (by decide +kernel : ∀ t : Fin grid0.N, _)

theorem idx3 : ∀ t : Fin cfg0.N, win0_3.index t (0 : Fin 2) = t.val / 43 ∧ win0_3.index t (1 : Fin 2) = t.val % 43 :=
  (by decide +kernel : ∀ t : Fin grid0.N, _)

theorem lt_N (t : Fin cfg0.N) : t.val < 688 := lt_of_lt_of_eq t.isLt (show cfg0.N = 688 from N_0)

theorem blk0 (t : Fin cfg0.N) (a : Fin 1024) (k : Fin 4096) :
    iblk m c 0 t (ix2 a k) = (m (c.tc.loc main_arg0) : FVec Ideal S16384x4096 .f32) (ix2 ⟨t.val / 43 * 1024 + a.val, by have := lt_N t; omega⟩ k) := by
  obtain ⟨e0, e1⟩ := idx0 t
  refine Eq.trans ?_ (congrFun (rows_eq m c) _)
  refine congrArg (V m c main_v0) (funext fun i => Fin.ext ?_)
  match i with
  | ⟨0, _⟩ => show win0_0.index t (0 : Fin 2) * 1024 + 1 * a.val = t.val / 43 * 1024 + a.val; omega
  | ⟨1, _⟩ => show win0_0.index t (1 : Fin 2) * 4096 + 1 * k.val = k.val; omega

theorem blk1 (t : Fin cfg0.N) (k : Fin 4096) (b : Fin 256) :
    iblk m c 1 t (ix3 0 k b) = (m (c.tc.loc main_arg1) : FVec Ideal S4096x11008 .f32) (ix2 k ⟨t.val % 43 * 256 + b.val, by omega⟩) := by
  obtain ⟨e0, e1, e2⟩ := idx1 t
  refine Eq.trans ?_ ((congrFun (gate_eq m c) _).trans (slabs_apply _ ⟨t.val % 43, by omega⟩ k b))
  refine congrArg (V m c main_v3) (funext fun i => Fin.ext ?_)
  match i with
  | ⟨0, _⟩ => show win0_1.index t (0 : Fin 3) * 1 + 1 * 0 = t.val % 43; omega
  | ⟨1, _⟩ => show win0_1.index t (1 : Fin 3) * 4096 + 1 * k.val = k.val; omega
  | ⟨2, _⟩ => show win0_1.index t (2 : Fin 3) * 256 + 1 * b.val = b.val; omega

theorem blk2 (t : Fin cfg0.N) (k : Fin 4096) (b : Fin 256) :
    iblk m c 2 t (ix3 0 k b) = (m (c.tc.loc main_arg2) : FVec Ideal S4096x11008 .f32) (ix2 k ⟨t.val % 43 * 256 + b.val, by omega⟩) := by
  obtain ⟨e0, e1, e2⟩ := idx2 t
  refine Eq.trans ?_ ((congrFun (up_eq m c) _).trans (slabs_apply _ ⟨t.val % 43, by omega⟩ k b))
  refine congrArg (V m c main_v6) (funext fun i => Fin.ext ?_)
  match i with
  | ⟨0, _⟩ => show win0_2.index t (0 : Fin 3) * 1 + 1 * 0 = t.val % 43; omega
  | ⟨1, _⟩ => show win0_2.index t (1 : Fin 3) * 4096 + 1 * k.val = k.val; omega
  | ⟨2, _⟩ => show win0_2.index t (2 : Fin 3) * 256 + 1 * b.val = b.val; omega

/-- What a point writes back is its block of the whole result. -/
theorem flushed_eq (t : Fin cfg0.N) : (dats m 0 c).flushed 3 t = ((cfg0.win 3).blk t).view.read (Elt Ideal)
    (product (m (c.tc.loc main_arg0)) (m (c.tc.loc main_arg1)) (m (c.tc.loc main_arg2))) := by
  rw [flushed3]
  funext y
  obtain ⟨a, b, rfl⟩ : ∃ (a : Fin 1024) (b : Fin 256), y = ix2 a b := ⟨y 0, y 1, by funext a; fin_cases a <;> rfl⟩
  obtain ⟨e0, e1⟩ := idx3 t
  show out0_3 (F := Ideal) (iblk m c 0 t) (iblk m c 1 t) (iblk m c 2 t) (ix2 a b) = product _ _ _ (((cfg0.win 3).blk t).view.emb (ix2 a b))
  have e : ((cfg0.win 3).blk t).view.emb (ix2 a b) = ix2 ⟨t.val / 43 * 1024 + a.val, by have := lt_N t; omega⟩ ⟨t.val % 43 * 256 + b.val, by omega⟩ := by
    funext i
    apply Fin.ext
    match i with
    | ⟨0, _⟩ => show win0_3.index t (0 : Fin 2) * 1024 + 1 * a.val = t.val / 43 * 1024 + a.val; omega
    | ⟨1, _⟩ => show win0_3.index t (1 : Fin 2) * 256 + 1 * b.val = t.val % 43 * 256 + b.val; omega
  rw [out_eq, e]
  refine (pay_apply (iblk m c 0 t) (iblk m c 1 t) (iblk m c 2 t) a b).trans ?_
  refine congrArg₂ act (Finset.sum_congr (M := EReal) rfl fun k _ => ?_) (Finset.sum_congr (M := EReal) rfl fun k _ => ?_)
  · rw [blk0, blk1]; rfl
  · rw [blk0, blk2]; rfl

theorem covered (i : S16384x11008.Idx) : ∃ t : Fin cfg0.N, (cfg0.win 3).flush t = true ∧ i ∈ ((cfg0.win 3).blk t).view.set := by
  have h0 : (i 0).val < 16384 := (i 0).isLt
  have h1 : (i 1).val < 11008 := (i 1).isLt
  have hN : cfg0.N = 688 := N_0
  let t : Fin cfg0.N := ⟨(i 0).val / 1024 * 43 + (i 1).val / 256, by rw [hN]; omega⟩
  have ht : t.val = (i 0).val / 1024 * 43 + (i 1).val / 256 := rfl
  obtain ⟨e0, e1⟩ := idx3 t
  refine ⟨t, flush0_3 t, ?_⟩
  show i ∈ ((View.whole main_v7).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The result array after the run. -/
theorem result_eq : (dats m 0 c).arrAt 3 cfg0.N = product (m (c.tc.loc main_arg0)) (m (c.tc.loc main_arg1)) (m (c.tc.loc main_arg2)) :=
  (dats m 0 c).arrAt_eq_of_cover 3 _ (fun t _ => flushed_eq m c t) covered

end Cert.Kernel2Ideal.Step

namespace Cert.Reference2Ideal.Step

open Cert.Reference2Ideal Cert.Reference2Ideal.Gen Idealize.ShloMosaic Idealize.SL.Sem Idealize.ShloMosaic.TcCoe
open Cert.Kernel2Ideal.Step (dotAt act product)

/-- The two orders of the activation's division and product agree: its denominator is never zero. -/
theorem act_eq (g u : EReal) : g * Ideal.div 1 (1 + Ideal.exp (-g)) * u = act g u := by
  have hp : (0 : EReal) ≤ Ideal.exp (-g) := by
    induction g using EReal.rec with
    | bot => rw [EReal.neg_bot]; exact (le_top : (0 : EReal) ≤ ⊤)
    | top => rw [EReal.neg_top]; exact (le_refl (0 : EReal))
    | coe r => rw [← EReal.coe_neg]; exact (EReal.coe_nonneg.2 (Real.exp_pos (-r)).le)
  have h1 : (1 + Ideal.exp (-g) : EReal) ≠ 0 := by
    have : (1 : EReal) ≤ 1 + Ideal.exp (-g) := le_add_of_nonneg_right hp
    exact (lt_of_lt_of_le zero_lt_one this).ne'
  unfold act Ideal.div
  rw [zero_sub, if_neg h1, if_neg h1, one_mul]

/-- The reference's result. -/
def gated (X : FVec Ideal S16384x4096 .f32) (Wg Wu : FVec Ideal S4096x11008 .f32) : FVec Ideal S16384x11008 .bf16 :=
  truncf .bf16 (mulf (mulf (Host.dotGeneral dot_S16384x4096_S4096x11008_S16384x11008_1_0_0_1_n_n none X Wg)
    (Host.divf (broadcastInDim S16384x11008 ![] bcast_S_S16384x11008 (constant S_ .f32 0x3F800000#32))
      (addf (broadcastInDim S16384x11008 ![] bcast_S_S16384x11008 (constant S_ .f32 0x3F800000#32))
        (Host.exp (Host.negf (Host.dotGeneral dot_S16384x4096_S4096x11008_S16384x11008_1_0_0_1_n_n none X Wg))))))
    (Host.dotGeneral dot_S16384x4096_S4096x11008_S16384x11008_1_0_0_1_n_n none X Wu)) bitsLt_bf16_f32

theorem gated_apply (X : FVec Ideal S16384x4096 .f32) (Wg Wu : FVec Ideal S4096x11008 .f32) (s : Fin 16384) (f : Fin 11008) :
    gated X Wg Wu (ix2 s f) = dotAt X Wg s f * Ideal.div 1 (1 + Ideal.exp (-dotAt X Wg s f)) * dotAt X Wu s f := by
  unfold dotAt
  pointwise [gated]

theorem gated_eq (X : FVec Ideal S16384x4096 .f32) (Wg Wu : FVec Ideal S4096x11008 .f32) : gated X Wg Wu = product X Wg Wu := by
  funext i
  obtain ⟨s, f, rfl⟩ : ∃ (s : Fin 16384) (f : Fin 11008), i = ix2 s f := ⟨i 0, i 1, by funext a; fin_cases a <;> rfl⟩
  rw [gated_apply, act_eq]
  rfl

end Cert.Reference2Ideal.Step

end
-- ==== Proof.Norm.lean ====
/- The layer norm: the reference's terms, read entry by entry, and what the norm's call leaves in its result array. -/
module

public import Idealize.ShloMosaic.Lib.Pointwise
public import Idealize.ShloMosaic.Lib.Tactic.ValueTie
public import proofs.«01_k».proof.Proof.Gen.Kernel4Ideal.Value
public import proofs.«01_k».proof.Proof.Gen.Reference4Ideal.Run

@[expose] public section

set_option maxRecDepth 16384

noncomputable section

namespace Cert.Norm

open Idealize.ShloMosaic

/-- A row's mean. -/
def mean (row : Fin 4096 → EReal) : EReal := Ideal.div (∑ k, row k) (Ideal.ofBits .f32 0x45800000#32)

/-- The reciprocal root of the mean square of a row's deviations. -/
def scale (dev : Fin 4096 → EReal) : EReal :=
  Ideal.rsqrt (Ideal.div (∑ k, dev k * dev k) (Ideal.ofBits .f32 0x45800000#32) + Ideal.ofBits .f32 0x3727C5AC#32)

/-- An entry of a normed row, with its gain and bias. -/
def normed (row : Fin 4096 → EReal) (d : Fin 4096) (g b : EReal) : EReal :=
  (row d - mean row) * scale (fun k => row k - mean row) * g + b

end Cert.Norm

namespace Cert.Reference4Ideal.Stages

open Cert.Reference4Ideal Cert.Reference4Ideal.Gen Idealize.ShloMosaic Idealize.ShloMosaic.TcCoe Idealize.SL.Sem
open Cert.Norm (mean scale normed)

/-- Every row's mean. -/
def meanArr (Y : FVec Ideal S16384x4096 .f32) : FVec Ideal S16384x1 .f32 :=
  Host.divf (broadcastInDim S16384x1 ![0] bcast_S16384_S16384x1_0 (Host.reduceAdd Y (constant S_ .f32 0x00000000#32) reducesTo_S16384x4096_S16384_d1 h_S_))
    (broadcastInDim S16384x1 ![] bcast_S_S16384x1 (constant S_ .f32 0x45800000#32))

/-- Every entry's deviation from its row's mean. -/
def devArr (Y : FVec Ideal S16384x4096 .f32) (M : FVec Ideal S16384x1 .f32) : FVec Ideal S16384x4096 .f32 :=
  subf Y (broadcastInDim S16384x4096 ![0, 1] bcast_S16384x1_S16384x4096_0_1 M)

/-- Every row's reciprocal root. -/
def scaleArr (D : FVec Ideal S16384x4096 .f32) : FVec Ideal S16384x1 .f32 :=
  Host.rsqrt (addf (Host.divf (broadcastInDim S16384x1 ![0] bcast_S16384_S16384x1_0 (Host.reduceAdd (mulf D D) (constant S_ .f32 0x00000000#32) reducesTo_S16384x4096_S16384_d1 h_S_))
    (broadcastInDim S16384x1 ![] bcast_S_S16384x1 (constant S_ .f32 0x45800000#32))) (broadcastInDim S16384x1 ![] bcast_S_S16384x1 (constant S_ .f32 0x3727C5AC#32)))

/-- The deviations scaled, with gain and bias. -/
def affine (D : FVec Ideal S16384x4096 .f32) (R : FVec Ideal S16384x1 .f32) (G B : FVec Ideal S4096 .f32) : FVec Ideal S16384x4096 .f32 :=
  addf (mulf (mulf D (broadcastInDim S16384x4096 ![0, 1] bcast_S16384x1_S16384x4096_0_1 R))
    (broadcastInDim S16384x4096 ![0, 1] bcast_S1x4096_S16384x4096_0_1 (broadcastInDim S1x4096 ![1] bcast_S4096_S1x4096_1 G)))
    (broadcastInDim S16384x4096 ![0, 1] bcast_S1x4096_S16384x4096_0_1 (broadcastInDim S1x4096 ![1] bcast_S4096_S1x4096_1 B))

/-- The whole norm. -/
def normArr (Y : FVec Ideal S16384x4096 .f32) (G B : FVec Ideal S4096 .f32) : FVec Ideal S16384x4096 .f32 :=
  affine (devArr Y (meanArr Y)) (scaleArr (devArr Y (meanArr Y))) G B

theorem meanArr_apply (Y : FVec Ideal S16384x4096 .f32) (s : Fin 16384) : meanArr Y (ix2 s 0) = mean fun k => Y (ix2 s k) := by
  unfold mean
  pointwise [meanArr]

theorem devArr_apply (Y : FVec Ideal S16384x4096 .f32) (M : FVec Ideal S16384x1 .f32) (s : Fin 16384) (d : Fin 4096) :
    devArr Y M (ix2 s d) = Y (ix2 s d) - M (ix2 s 0) := by
  pointwise [devArr]

theorem scaleArr_apply (D : FVec Ideal S16384x4096 .f32) (s : Fin 16384) : scaleArr D (ix2 s 0) = scale fun k => D (ix2 s k) := by
  unfold scale
  pointwise [scaleArr]

theorem affine_apply (D : FVec Ideal S16384x4096 .f32) (R : FVec Ideal S16384x1 .f32) (G B : FVec Ideal S4096 .f32) (s : Fin 16384) (d : Fin 4096) :
    affine D R G B (ix2 s d) = D (ix2 s d) * R (ix2 s 0) * G (ix1 d) + B (ix1 d) := by
  pointwise [affine]

theorem normArr_apply (Y : FVec Ideal S16384x4096 .f32) (G B : FVec Ideal S4096 .f32) (s : Fin 16384) (d : Fin 4096) :
    normArr Y G B (ix2 s d) = normed (fun k => Y (ix2 s k)) d (G (ix1 d)) (B (ix1 d)) := by
  unfold normArr normed
  rw [affine_apply, scaleArr_apply, devArr_apply, meanArr_apply]
  simp only [devArr_apply, meanArr_apply]

end Cert.Reference4Ideal.Stages

namespace Cert.Kernel4Ideal.Step

open Cert.Kernel4Ideal Cert.Kernel4Ideal.Gen Cert.Kernel4Ideal.Value Idealize.ShloMosaic Idealize.SL.Sem Idealize.ShloMosaic.TcCoe
open Cert.Norm (mean scale normed)

theorem zeros2 : (![0, 0] : Fin 2 → ℕ) = fun _ => 0 := by funext a; fin_cases a <;> rfl

theorem pay_apply (y : FVec Ideal S256x4096 .f32) (g b : FVec Ideal S1x4096 .f32) (a : Fin 256) (d : Fin 4096) :
    k0_pay1 (F := Ideal) y g b (ix2 a d) = normed (fun k => y (ix2 a k)) d (g (ix2 0 d)) (b (ix2 0 d)) := by
  unfold normed scale mean
  pointwise [k0_pay1]

theorem out_eq (y : Vec Ideal S256x4096 .f32) (g b : Vec Ideal S1x4096 .f32) : out0_3 (F := Ideal) y g b = k0_pay1 (F := Ideal) y g b := by
  unfold out0_3
  rw [View.canon_unit_zero zeros2, View.ld_unit_zero (S := S256x4096) zeros2, View.ld_unit_zero (S := S1x4096) zeros2, View.ld_unit_zero (S := S1x4096) zeros2]

/-- A vector as one row. -/
def asRow (G : FVec Ideal S4096 .f32) : FVec Ideal S1x4096 .f32 := shapeCast S1x4096 G shapeCasts_S4096_S1x4096

theorem asRow_apply (G : FVec Ideal S4096 .f32) (d : Fin 4096) : asRow G (ix2 0 d) = G (ix1 d) := by
  pointwise [asRow]

variable (m : (ℓ : Loc nD τ sig) → Buf (Elt Ideal) ℓ) (c : Dev nD)

theorem rows_eq : V m c main_arg0 = m (c.tc.loc main_arg0) := by
  unfold V
  simp only [hostOps0, List.flatten_cons, List.flatten_nil, List.cons_append, List.nil_append, List.append_nil]
  after_results_simp

theorem gain_eq : V m c main_v0 = asRow (m (c.tc.loc main_arg1)) := by
  unfold V asRow
  simp only [hostOps0, List.flatten_cons, List.flatten_nil, List.cons_append, List.nil_append, List.append_nil]
  after_results_simp
  rfl

theorem bias_eq : V m c main_v1 = asRow (m (c.tc.loc main_arg2)) := by
  unfold V asRow
  simp only [hostOps0, List.flatten_cons, List.flatten_nil, List.cons_append, List.nil_append, List.append_nil]
  after_results_simp
  rfl

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem lt_N (t : Fin cfg0.N) : t.val < 64 := lt_of_lt_of_eq t.isLt (show cfg0.N = 64 from N_0)

theorem blk0 (t : Fin cfg0.N) (a : Fin 256) (k : Fin 4096) :
    iblk m c 0 t (ix2 a k) = (m (c.tc.loc main_arg0) : FVec Ideal S16384x4096 .f32) (ix2 ⟨t.val * 256 + a.val, by have := lt_N t; omega⟩ k) := by
  obtain ⟨e0, e1⟩ := idx0 t
  refine Eq.trans ?_ (congrFun (rows_eq m c) _)
  refine congrArg (V m c main_arg0) (funext fun i => Fin.ext ?_)
  match i with
  | ⟨0, _⟩ => show win0_0.index t (0 : Fin 2) * 256 + 1 * a.val = t.val * 256 + a.val; omega
  | ⟨1, _⟩ => show win0_0.index t (1 : Fin 2) * 4096 + 1 * k.val = k.val; omega

theorem blk1 (t : Fin cfg0.N) (d : Fin 4096) : iblk m c 1 t (ix2 0 d) = (m (c.tc.loc main_arg1) : FVec Ideal S4096 .f32) (ix1 d) := by
  obtain ⟨e0, e1⟩ := idx1 t
  refine Eq.trans ?_ ((congrFun (gain_eq m c) _).trans (asRow_apply _ d))
  refine congrArg (V m c main_v0) (funext fun i => Fin.ext ?_)
  match i with
  | ⟨0, _⟩ => show win0_1.index t (0 : Fin 2) * 1 + 1 * 0 = 0; omega
  | ⟨1, _⟩ => show win0_1.index t (1 : Fin 2) * 4096 + 1 * d.val = d.val; omega

theorem blk2 (t : Fin cfg0.N) (d : Fin 4096) : iblk m c 2 t (ix2 0 d) = (m (c.tc.loc main_arg2) : FVec Ideal S4096 .f32) (ix1 d) := by
  obtain ⟨e0, e1⟩ := idx2 t
  refine Eq.trans ?_ ((congrFun (bias_eq m c) _).trans (asRow_apply _ d))
  refine congrArg (V m c main_v1) (funext fun i => Fin.ext ?_)
  match i with
  | ⟨0, _⟩ => show win0_2.index t (0 : Fin 2) * 1 + 1 * 0 = 0; omega
  | ⟨1, _⟩ => show win0_2.index t (1 : Fin 2) * 4096 + 1 * d.val = d.val; omega

/-- The whole result. -/
def result (Y : FVec Ideal S16384x4096 .f32) (G B : FVec Ideal S4096 .f32) : FVec Ideal S16384x4096 .f32 :=
  fun i => normed (fun k => Y (ix2 (i 0) k)) (i 1) (G (ix1 (i 1))) (B (ix1 (i 1)))

/-- What a point writes back is its block of the whole result. -/
theorem flushed_eq (t : Fin cfg0.N) : (dats m 0 c).flushed 3 t = ((cfg0.win 3).blk t).view.read (Elt Ideal)
    (result (m (c.tc.loc main_arg0)) (m (c.tc.loc main_arg1)) (m (c.tc.loc main_arg2))) := by
  rw [flushed3]
  funext y
  obtain ⟨a, d, rfl⟩ : ∃ (a : Fin 256) (d : Fin 4096), y = ix2 a d := ⟨y 0, y 1, by funext a; fin_cases a <;> rfl⟩
  obtain ⟨e0, e1⟩ := idx3 t
  show out0_3 (F := Ideal) (iblk m c 0 t) (iblk m c 1 t) (iblk m c 2 t) (ix2 a d) = result _ _ _ (((cfg0.win 3).blk t).view.emb (ix2 a d))
  have e : ((cfg0.win 3).blk t).view.emb (ix2 a d) = ix2 ⟨t.val * 256 + a.val, by have := lt_N t; omega⟩ d := by
    funext i
    apply Fin.ext
    match i with
    | ⟨0, _⟩ => show win0_3.index t (0 : Fin 2) * 256 + 1 * a.val = t.val * 256 + a.val; omega
    | ⟨1, _⟩ => show win0_3.index t (1 : Fin 2) * 4096 + 1 * d.val = d.val; omega
  rw [out_eq, e]
  refine (pay_apply (iblk m c 0 t) (iblk m c 1 t) (iblk m c 2 t) a d).trans ?_
  rw [blk1, blk2]
  exact congrArg (fun r => normed r d _ _) (funext fun k => blk0 m c t a k)

theorem covered (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 64 := N_0
  let t : Fin cfg0.N := ⟨(i 0).val / 256, by rw [hN]; omega⟩
  have ht : t.val = (i 0).val / 256 := rfl
  obtain ⟨e0, e1⟩ := idx3 t
  refine ⟨t, flush0_3 t, ?_⟩
  show i ∈ ((View.whole main_v2).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The result array after the run. -/
theorem result_eq : (dats m 0 c).arrAt 3 cfg0.N = result (m (c.tc.loc main_arg0)) (m (c.tc.loc main_arg1)) (m (c.tc.loc main_arg2)) :=
  (dats m 0 c).arrAt_eq_of_cover 3 _ (fun t _ => flushed_eq m c t) covered

theorem norm_eq (Y : FVec Ideal S16384x4096 .f32) (G B : FVec Ideal S4096 .f32) : Cert.Reference4Ideal.Stages.normArr Y G B = result Y G B := by
  funext i
  obtain ⟨s, d, rfl⟩ : ∃ (s : Fin 16384) (d : Fin 4096), i = ix2 s d := ⟨i 0, i 1, by funext a; fin_cases a <;> rfl⟩
  exact Cert.Reference4Ideal.Stages.normArr_apply Y G B s d

end Cert.Kernel4Ideal.Step

end
-- ==== Proof.Down.lean ====
/- The feed-forward's output product added to the normed, scaled residual. -/
module

public import Idealize.ShloMosaic.Lib.Pointwise
public import Idealize.ShloMosaic.Lib.Tactic.ValueTie
public import proofs.«01_k».proof.Proof.Norm
public import proofs.«01_k».proof.Proof.Gen.Kernel3Ideal.Value
public import proofs.«01_k».proof.Proof.Gen.Reference3Ideal.Run

@[expose] public section

set_option maxRecDepth 16384

noncomputable section

namespace Cert.Kernel3Ideal.Step

open Cert.Kernel3Ideal Cert.Kernel3Ideal.Gen Cert.Kernel3Ideal.Value Idealize.ShloMosaic Idealize.SL.Sem Idealize.ShloMosaic.TcCoe
open Cert.Norm (mean scale normed)
open Cert.Reference4Ideal.Stages (meanArr devArr scaleArr meanArr_apply devArr_apply scaleArr_apply normArr normArr_apply)

/-- An entry of the result: the residual's normed entry scaled, plus the product's entry. -/
def entry (H : FVec Ideal S16384x11008 .f32) (W : FVec Ideal S11008x4096 .f32) (Y : FVec Ideal S16384x4096 .f32) (G B : FVec Ideal S4096 .f32)
    (s : Fin 16384) (d : Fin 4096) : EReal :=
  Ideal.ofBits .f32 0x3FB504F3#32 * normed (fun k => Y (ix2 s k)) d (G (ix1 d)) (B (ix1 d)) + ∑ f : Fin 11008, H (ix2 s f) * W (ix2 f d)

/-- The whole result. -/
def result (H : FVec Ideal S16384x11008 .f32) (W : FVec Ideal S11008x4096 .f32) (Y : FVec Ideal S16384x4096 .f32) (G B : FVec Ideal S4096 .f32) :
    FVec Ideal S16384x4096 .f32 := fun i => entry H W Y G B (i 0) (i 1)

/-- The weight cut into slabs of 256 columns. -/
def slabs (W : FVec Ideal S11008x4096 .f32) : FVec Ideal S16x11008x256 .bf16 :=
  truncf .bf16 (transpose S16x11008x256 [1, 0, 2] (shapeCast S11008x16x256 W shapeCasts_S11008x4096_S11008x16x256) transposes_S11008x16x256_S16x11008x256_1_0_2) bitsLt_bf16_f32

theorem slabs_apply (W : FVec Ideal S11008x4096 .f32) (j : Fin 16) (k : Fin 11008) (n : Fin 256) :
    slabs W (ix3 j k n) = W (ix2 k ⟨j.val * 256 + n.val, by omega⟩) := by
  pointwise [slabs]

/-- The rows in the width the call reads. -/
def narrow (H : FVec Ideal S16384x11008 .f32) : FVec Ideal S16384x11008 .bf16 := truncf .bf16 H bitsLt_bf16_f32

/-- A column repeated over the lanes. -/
def lanes (M : FVec Ideal S16384x1 .f32) : FVec Ideal S16384x128 .f32 := broadcastInDim S16384x128 ![0, 1] bcast_S16384x1_S16384x128_0_1 M

theorem lanes_apply (M : FVec Ideal S16384x1 .f32) (s : Fin 16384) (l : Fin 128) : lanes M (ix2 s l) = M (ix2 s 0) := by
  pointwise [lanes]

/-- A vector as one row. -/
def asRow (G : FVec Ideal S4096 .f32) : FVec Ideal S1x4096 .f32 := shapeCast S1x4096 G shapeCasts_S4096_S1x4096

theorem asRow_apply (G : FVec Ideal S4096 .f32) (d : Fin 4096) : asRow G (ix2 0 d) = G (ix1 d) := by
  pointwise [asRow]

theorem zeros2 : (![0, 0] : Fin 2 → ℕ) = fun _ => 0 := by funext a; fin_cases a <;> rfl
theorem zeros3 : (![0, 0, 0] : Fin 3 → ℕ) = fun _ => 0 := by funext a; fin_cases a <;> rfl

/-- The lane of a column in two copies of 128 lanes side by side. -/
theorem pick (f : Fin 128 → EReal) (n : Fin 256) : (if h : n.val < 128 then f ⟨n.val, h⟩ else f ⟨n.val - 128, by omega⟩) = f ⟨n.val % 128, by omega⟩ := by
  split_ifs with h
  · exact congrArg f (Fin.ext (by show n.val = n.val % 128; omega))
  · exact congrArg f (Fin.ext (by show n.val - 128 = n.val % 128; omega))

theorem pay_apply (y : FVec Ideal S512x256 .f32) (mu rs : FVec Ideal S512x128 .f32) (g b : FVec Ideal S1x256 .f32)
    (h : FVec Ideal S512x11008 .bf16) (w : FVec Ideal S1x11008x256 .bf16) (r : Fin 512) (n : Fin 256) :
    k0_pay1 (F := Ideal) y mu rs g b h w (ix2 r n)
      = Ideal.ofBits .f32 0x3FB504F3#32 * ((y (ix2 r n) - mu (ix2 r ⟨n.val % 128, by omega⟩)) * rs (ix2 r ⟨n.val % 128, by omega⟩) * g (ix2 0 n) + b (ix2 0 n))
        + ∑ f : Fin 11008, h (ix2 r f) * w (ix3 0 f n) := by
  pointwise [k0_pay1]
  exact congrArg₂ (fun A B : EReal => Ideal.ofBits .f32 0x3FB504F3#32 * ((y (ix2 r n) - A) * B * g (ix2 0 n) + b (ix2 0 n)) + ∑ f : Fin 11008, h (ix2 r f) * w (ix3 0 f n))
    (pick (fun l => mu (ix2 r l)) n) (pick (fun l => rs (ix2 r l)) n)

theorem out_eq (x0 : Vec Ideal S512x11008 .bf16) (x1 : Vec Ideal S1x11008x256 .bf16) (x2 : Vec Ideal S512x256 .f32) (x3 x4 : Vec Ideal S512x128 .f32)
    (x5 x6 : Vec Ideal S1x256 .f32) : out0_7 (F := Ideal) x0 x1 x2 x3 x4 x5 x6 = k0_pay1 (F := Ideal) x2 x3 x4 x5 x6 x0 x1 := by
  unfold out0_7
  rw [View.canon_unit_zero zeros2, View.ld_unit_zero (S := S512x256) zeros2, View.ld_unit_zero (S := S512x128) zeros2, View.ld_unit_zero (S := S512x128) zeros2,
    View.ld_unit_zero (S := S1x256) zeros2, View.ld_unit_zero (S := S1x256) zeros2, View.ld_unit_zero (S := S512x11008) zeros2, View.ld_unit_zero (S := S1x11008x256) zeros3]

variable (m : (ℓ : Loc nD τ sig) → Buf (Elt Ideal) ℓ) (c : Dev nD)

theorem rows_eq : V m c main_v16 = narrow (m (c.tc.loc main_arg0)) := by
  unfold V
  simp only [hostOps0, List.flatten_cons, List.flatten_nil, List.cons_append, List.nil_append, List.append_nil]
  after_results_simp
  rfl

theorem weight_eq : V m c main_v19 = slabs (m (c.tc.loc main_arg1)) := by
  unfold V
  simp only [hostOps0, List.flatten_cons, List.flatten_nil, List.cons_append, List.nil_append, List.append_nil]
  after_results_simp
  rfl

theorem residual_eq : V m c main_arg2 = m (c.tc.loc main_arg2) := by
  unfold V
  simp only [hostOps0, List.flatten_cons, List.flatten_nil, List.cons_append, List.nil_append, List.append_nil]
  after_results_simp

theorem mean_eq : V m c main_v14 = lanes (meanArr (m (c.tc.loc main_arg2))) := by
  unfold V
  simp only [hostOps0, List.flatten_cons, List.flatten_nil, List.cons_append, List.nil_append, List.append_nil]
  after_results_simp
  rfl

theorem scale_eq : V m c main_v15 = lanes (scaleArr (devArr (m (c.tc.loc main_arg2)) (meanArr (m (c.tc.loc main_arg2))))) := by
  unfold V
  simp only [hostOps0, List.flatten_cons, List.flatten_nil, List.cons_append, List.nil_append, List.append_nil]
  after_results_simp
  rfl

theorem gain_eq : V m c main_v20 = asRow (m (c.tc.loc main_arg3)) := by
  unfold V
  simp only [hostOps0, List.flatten_cons, List.flatten_nil, List.cons_append, List.nil_append, List.append_nil]
  after_results_simp
  rfl

theorem bias_eq : V m c main_v21 = asRow (m (c.tc.loc main_arg4)) := by
  unfold V
  simp only [hostOps0, List.flatten_cons, List.flatten_nil, List.cons_append, List.nil_append, List.append_nil]
  after_results_simp
  rfl

theorem idx0 : ∀ t : Fin cfg0.N, win0_0.index t (0 : Fin 2) = t.val / 16 ∧ win0_0.index t (1 : Fin 2) = 0 :=
  (by decide +kernel : ∀ t : Fin grid0.N, _)

theorem idx1 : ∀ t : Fin cfg0.N, win0_1.index t (0 : Fin 3) = t.val % 16 ∧ win0_1.index t (1 : Fin 3) = 0 ∧ win0_1.index t (2 : Fin 3) = 0 :=
  (by decide +kernel : ∀ t : Fin grid0.N, _)

theorem idx2 : ∀ t : Fin cfg0.N, win0_2.index t (0 : Fin 2) = t.val / 16 ∧ win0_2.index t (1 : Fin 2) = t.val % 16 :=
  (by decide +kernel : ∀ t : Fin grid0.N, _)

theorem idx3 : ∀ t : Fin cfg0.N, win0_3.index t (0 : Fin 2) = t.val / 16 ∧ win0_3.index t (1 : Fin 2) = 0 :=
  (by decide +kernel : ∀ t : Fin grid0.N, _)

theorem idx4 : ∀ t : Fin cfg0.N, win0_4.index t (0 : Fin 2) = t.val / 16 ∧ win0_4.index t (1 : Fin 2) = 0 :=
  (by decide +kernel : ∀ t : Fin grid0.N, _)

theorem idx5 : ∀ t : Fin cfg0.N, win0_5.index t (0 : Fin 2) = 0 ∧ win0_5.index t (1 : Fin 2) = t.val % 16 :=
  (by decide +kernel : ∀ t : Fin grid0.N, _)

theorem idx6 : ∀ t : Fin cfg0.N, win0_6.index t (0 : Fin 2) = 0 ∧ win0_6.index t (1 : Fin 2) = t.val % 16 :=
  (by decide +kernel : ∀ t : Fin grid0.N, _)

theorem idx7 : ∀ t : Fin cfg0.N, win0_7.index t (0 : Fin 2) = t.val / 16 ∧ win0_7.index t (1 : Fin 2) = t.val % 16 :=
  (by decide +kernel : ∀ t : Fin grid0.N, _)

theorem lt_N (t : Fin cfg0.N) : t.val < 512 := lt_of_lt_of_eq t.isLt (show cfg0.N = 512 from N_0)

theorem blk0 (t : Fin cfg0.N) (r : Fin 512) (f : Fin 11008) : iblk m c 0 t (ix2 r f) = (m (c.tc.loc main_arg0) : FVec Ideal S16384x11008 .f32) (ix2 ⟨t.val / 16 * 512 + r.val, by have := lt_N t; omega⟩ f) := by
  obtain ⟨e0, e1⟩ := idx0 t
  refine Eq.trans ?_ (congrFun (rows_eq m c) _)
  refine congrArg (V m c main_v16) (funext fun i => Fin.ext ?_)
  match i with
  | ⟨0, _⟩ => show win0_0.index t (0 : Fin 2) * 512 + 1 * r.val = t.val / 16 * 512 + r.val; omega
  | ⟨1, _⟩ => show win0_0.index t (1 : Fin 2) * 11008 + 1 * f.val = f.val; omega

theorem blk1 (t : Fin cfg0.N) (f : Fin 11008) (n : Fin 256) : iblk m c 1 t (ix3 0 f n) = (m (c.tc.loc main_arg1) : FVec Ideal S11008x4096 .f32) (ix2 f ⟨t.val % 16 * 256 + n.val, by omega⟩) := by
  obtain ⟨e0, e1, e2⟩ := idx1 t
  refine Eq.trans ?_ ((congrFun (weight_eq m c) _).trans (slabs_apply _ ⟨t.val % 16, by omega⟩ f n))
  refine congrArg (V m c main_v19) (funext fun i => Fin.ext ?_)
  match i with
  | ⟨0, _⟩ => show win0_1.index t (0 : Fin 3) * 1 + 1 * 0 = t.val % 16; omega
  | ⟨1, _⟩ => show win0_1.index t (1 : Fin 3) * 11008 + 1 * f.val = f.val; omega
  | ⟨2, _⟩ => show win0_1.index t (2 : Fin 3) * 256 + 1 * n.val = n.val; omega

theorem blk2 (t : Fin cfg0.N) (r : Fin 512) (n : Fin 256) : iblk m c 2 t (ix2 r n) = (m (c.tc.loc main_arg2) : FVec Ideal S16384x4096 .f32) (ix2 ⟨t.val / 16 * 512 + r.val, by have := lt_N t; omega⟩ ⟨t.val % 16 * 256 + n.val, by omega⟩) := by
  obtain ⟨e0, e1⟩ := idx2 t
  refine Eq.trans ?_ (congrFun (residual_eq m c) _)
  refine congrArg (V m c main_arg2) (funext fun i => Fin.ext ?_)
  match i with
  | ⟨0, _⟩ => show win0_2.index t (0 : Fin 2) * 512 + 1 * r.val = t.val / 16 * 512 + r.val; omega
  | ⟨1, _⟩ => show win0_2.index t (1 : Fin 2) * 256 + 1 * n.val = t.val % 16 * 256 + n.val; omega

theorem blk3 (t : Fin cfg0.N) (r : Fin 512) (l : Fin 128) : iblk m c 3 t (ix2 r l) = mean fun k => (m (c.tc.loc main_arg2) : FVec Ideal S16384x4096 .f32) (ix2 ⟨t.val / 16 * 512 + r.val, by have := lt_N t; omega⟩ k) := by
  obtain ⟨e0, e1⟩ := idx3 t
  refine Eq.trans ?_ ((congrFun (mean_eq m c) _).trans ((lanes_apply _ ⟨t.val / 16 * 512 + r.val, by have := lt_N t; omega⟩ l).trans (meanArr_apply _ _)))
  refine congrArg (V m c main_v14) (funext fun i => Fin.ext ?_)
  match i with
  | ⟨0, _⟩ => show win0_3.index t (0 : Fin 2) * 512 + 1 * r.val = t.val / 16 * 512 + r.val; omega
  | ⟨1, _⟩ => show win0_3.index t (1 : Fin 2) * 128 + 1 * l.val = l.val; omega

/-- The scale of a row of an array. -/
def rowScale (Y : FVec Ideal S16384x4096 .f32) (s : Fin 16384) : EReal := scale fun k => Y (ix2 s k) - mean fun k => Y (ix2 s k)

/-- A row's reciprocal root, from the row. -/
theorem scale_row (Y : FVec Ideal S16384x4096 .f32) (s : Fin 16384) :
    scaleArr (devArr Y (meanArr Y)) (ix2 s 0) = rowScale Y s := by
  unfold rowScale
  rw [scaleArr_apply]
  simp only [devArr_apply, meanArr_apply]

theorem blk4 (t : Fin cfg0.N) (r : Fin 512) (l : Fin 128) : iblk m c 4 t (ix2 r l) = rowScale (m (c.tc.loc main_arg2)) ⟨t.val / 16 * 512 + r.val, by have := lt_N t; omega⟩ := by
  obtain ⟨e0, e1⟩ := idx4 t
  refine Eq.trans ?_ ((congrFun (scale_eq m c) _).trans ((lanes_apply _ ⟨t.val / 16 * 512 + r.val, by have := lt_N t; omega⟩ l).trans (scale_row _ _)))
  refine congrArg (V m c main_v15) (funext fun i => Fin.ext ?_)
  match i with
  | ⟨0, _⟩ => show win0_4.index t (0 : Fin 2) * 512 + 1 * r.val = t.val / 16 * 512 + r.val; omega
  | ⟨1, _⟩ => show win0_4.index t (1 : Fin 2) * 128 + 1 * l.val = l.val; omega

theorem blk5 (t : Fin cfg0.N) (n : Fin 256) : iblk m c 5 t (ix2 0 n) = (m (c.tc.loc main_arg3) : FVec Ideal S4096 .f32) (ix1 ⟨t.val % 16 * 256 + n.val, by omega⟩) := by
  obtain ⟨e0, e1⟩ := idx5 t
  refine Eq.trans ?_ ((congrFun (gain_eq m c) _).trans (asRow_apply _ ⟨t.val % 16 * 256 + n.val, by omega⟩))
  refine congrArg (V m c main_v20) (funext fun i => Fin.ext ?_)
  match i with
  | ⟨0, _⟩ => show win0_5.index t (0 : Fin 2) * 1 + 1 * 0 = 0; omega
  | ⟨1, _⟩ => show win0_5.index t (1 : Fin 2) * 256 + 1 * n.val = t.val % 16 * 256 + n.val; omega

theorem blk6 (t : Fin cfg0.N) (n : Fin 256) : iblk m c 6 t (ix2 0 n) = (m (c.tc.loc main_arg4) : FVec Ideal S4096 .f32) (ix1 ⟨t.val % 16 * 256 + n.val, by omega⟩) := by
  obtain ⟨e0, e1⟩ := idx6 t
  refine Eq.trans ?_ ((congrFun (bias_eq m c) _).trans (asRow_apply _ ⟨t.val % 16 * 256 + n.val, by omega⟩))
  refine congrArg (V m c main_v21) (funext fun i => Fin.ext ?_)
  match i with
  | ⟨0, _⟩ => show win0_6.index t (0 : Fin 2) * 1 + 1 * 0 = 0; omega
  | ⟨1, _⟩ => show win0_6.index t (1 : Fin 2) * 256 + 1 * n.val = t.val % 16 * 256 + n.val; omega

/-- What a point writes back is its block of the whole result. -/
theorem flushed_eq (t : Fin cfg0.N) : (dats m 0 c).flushed 7 t = ((cfg0.win 7).blk t).view.read (Elt Ideal)
    (result (m (c.tc.loc main_arg0)) (m (c.tc.loc main_arg1)) (m (c.tc.loc main_arg2)) (m (c.tc.loc main_arg3)) (m (c.tc.loc main_arg4))) := by
  rw [flushed7]
  funext y
  obtain ⟨r, n, rfl⟩ : ∃ (r : Fin 512) (n : Fin 256), y = ix2 r n := ⟨y 0, y 1, by funext a; fin_cases a <;> rfl⟩
  obtain ⟨e0, e1⟩ := idx7 t
  show out0_7 (F := Ideal) (iblk m c 0 t) (iblk m c 1 t) (iblk m c 2 t) (iblk m c 3 t) (iblk m c 4 t) (iblk m c 5 t) (iblk m c 6 t) (ix2 r n)
    = result _ _ _ _ _ (((cfg0.win 7).blk t).view.emb (ix2 r n))
  have e : ((cfg0.win 7).blk t).view.emb (ix2 r n) = ix2 ⟨t.val / 16 * 512 + r.val, by have := lt_N t; omega⟩ ⟨t.val % 16 * 256 + n.val, by omega⟩ := by
    funext i
    apply Fin.ext
    match i with
    | ⟨0, _⟩ => show win0_7.index t (0 : Fin 2) * 512 + 1 * r.val = t.val / 16 * 512 + r.val; omega
    | ⟨1, _⟩ => show win0_7.index t (1 : Fin 2) * 256 + 1 * n.val = t.val % 16 * 256 + n.val; omega
  rw [out_eq, e]
  refine (pay_apply (iblk m c 2 t) (iblk m c 3 t) (iblk m c 4 t) (iblk m c 5 t) (iblk m c 6 t) (iblk m c 0 t) (iblk m c 1 t) r n).trans ?_
  rw [blk2, blk3, blk4, blk5, blk6]
  refine congrArg₂ (fun a b : EReal => a + b) rfl (Finset.sum_congr (M := EReal) rfl fun f _ => ?_)
  rw [blk0, blk1]; rfl

theorem covered (i : S16384x4096.Idx) : ∃ t : Fin cfg0.N, (cfg0.win 7).flush t = true ∧ i ∈ ((cfg0.win 7).blk t).view.set := by
  have h0 : (i 0).val < 16384 := (i 0).isLt
  have h1 : (i 1).val < 4096 := (i 1).isLt
  have hN : cfg0.N = 512 := N_0
  let t : Fin cfg0.N := ⟨(i 0).val / 512 * 16 + (i 1).val / 256, by rw [hN]; omega⟩
  have ht : t.val = (i 0).val / 512 * 16 + (i 1).val / 256 := rfl
  obtain ⟨e0, e1⟩ := idx7 t
  refine ⟨t, flush0_7 t, ?_⟩
  show i ∈ ((View.whole main_v22).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The result array after the run. -/
theorem result_eq : (dats m 0 c).arrAt 7 cfg0.N
    = result (m (c.tc.loc main_arg0)) (m (c.tc.loc main_arg1)) (m (c.tc.loc main_arg2)) (m (c.tc.loc main_arg3)) (m (c.tc.loc main_arg4)) :=
  (dats m 0 c).arrAt_eq_of_cover 7 _ (fun t _ => flushed_eq m c t) covered

end Cert.Kernel3Ideal.Step

namespace Cert.Reference3Ideal.Step

open Cert.Reference3Ideal Cert.Reference3Ideal.Gen Idealize.ShloMosaic Idealize.SL.Sem Idealize.ShloMosaic.TcCoe
open Cert.Kernel3Ideal.Step (entry result)
open Cert.Reference4Ideal.Stages (normArr normArr_apply)

/-- The reference's sum over the norm's array. -/
def summed (H : FVec Ideal S16384x11008 .f32) (W : FVec Ideal S11008x4096 .f32) (X : FVec Ideal S16384x4096 .f32) : FVec Ideal S16384x4096 .f32 :=
  addf (mulf (broadcastInDim S16384x4096 ![] bcast_S_S16384x4096 (constant S_ .f32 0x3FB504F3#32)) X)
    (Host.dotGeneral dot_S16384x11008_S11008x4096_S16384x4096_1_0_0_1_n_n none H W)

theorem summed_apply (H : FVec Ideal S16384x11008 .f32) (W : FVec Ideal S11008x4096 .f32) (X : FVec Ideal S16384x4096 .f32) (s : Fin 16384) (d : Fin 4096) :
    summed H W X (ix2 s d) = Ideal.ofBits .f32 0x3FB504F3#32 * X (ix2 s d) + ∑ f : Fin 11008, H (ix2 s f) * W (ix2 f d) := by
  pointwise [summed]

theorem summed_eq (H : FVec Ideal S16384x11008 .f32) (W : FVec Ideal S11008x4096 .f32) (Y : FVec Ideal S16384x4096 .f32) (G B : FVec Ideal S4096 .f32) :
    summed H W (normArr Y G B) = result H W Y G B := by
  funext i
  obtain ⟨s, d, rfl⟩ : ∃ (s : Fin 16384) (d : Fin 4096), i = ix2 s d := ⟨i 0, i 1, by funext a; fin_cases a <;> rfl⟩
  rw [summed_apply, normArr_apply]
  rfl

end Cert.Reference3Ideal.Step

end
-- ==== Proof.OutProj.lean ====
/- The attention's output product: the three mixers' rows, each scaled by its reciprocal root mean square and its gain, times the output
   weight, added to the scaled residual. -/
module

public import Idealize.ShloMosaic.Lib.Pointwise
public import Idealize.ShloMosaic.Lib.Tactic.ValueTie
public import Idealize.ShloMosaic.Lib.Pipeline.ValueKit
public import Idealize.ShloMosaic.Lib.Pipeline.ReadBack
public import proofs.«01_k».proof.Proof.Gen.Kernel5Ideal.Value
public import proofs.«01_k».proof.Proof.Gen.Reference5Ideal.Run

@[expose] public section

set_option maxRecDepth 16384

noncomputable section

namespace Cert.Rms

open Idealize.ShloMosaic

/-- The reciprocal root of a row's mean square, the mean over the number whose word is `w`. -/
def scale {n : ℕ} (w : BitVec 32) (row : Fin n → EReal) : EReal :=
  Ideal.rsqrt (Ideal.div (∑ k, row k * row k) (Ideal.ofBits .f32 w) + Ideal.ofBits .f32 0x358637BD#32)

end Cert.Rms

namespace Cert.Kernel5Ideal.Step

open Cert.Kernel5Ideal Cert.Kernel5Ideal.Gen Cert.Kernel5Ideal.Value Idealize.ShloMosaic Idealize.SL.Sem Idealize.ShloMosaic.TcCoe
open Cert.Rms (scale)

/-- An entry of the joined rows before the product: the first mixer's columns, the second's, the third's. -/
def joined (a : Fin 1024 → EReal) (b : Fin 2048 → EReal) (c : Fin 1024 → EReal) (g : Fin 4096 → EReal) (k : Fin 4096) : EReal :=
  if h : k.val < 1024 then a ⟨k.val, h⟩ * scale 0x44800000#32 a * g k
  else if h' : k.val < 3072 then b ⟨k.val - 1024, by omega⟩ * scale 0x45000000#32 b * g k
  else c ⟨k.val - 3072, by omega⟩ * scale 0x44800000#32 c * g k

theorem joined_first (a : Fin 1024 → EReal) (b : Fin 2048 → EReal) (c : Fin 1024 → EReal) (g : Fin 4096 → EReal) (k : Fin 4096) (h : k.val < 1024) :
    joined a b c g k = a ⟨k.val, h⟩ * scale 0x44800000#32 a * g k := dif_pos h

theorem joined_second (a : Fin 1024 → EReal) (b : Fin 2048 → EReal) (c : Fin 1024 → EReal) (g : Fin 4096 → EReal) (k : Fin 4096) (h : ¬ k.val < 1024)
    (h' : k.val < 3072) : joined a b c g k = b ⟨k.val - 1024, by omega⟩ * scale 0x45000000#32 b * g k := (dif_neg h).trans (dif_pos h')

theorem joined_third (a : Fin 1024 → EReal) (b : Fin 2048 → EReal) (c : Fin 1024 → EReal) (g : Fin 4096 → EReal) (k : Fin 4096) (h' : ¬ k.val < 3072) :
    joined a b c g k = c ⟨k.val - 3072, by omega⟩ * scale 0x44800000#32 c * g k := (dif_neg (by omega)).trans (dif_neg h')

/-- A row of the joined rows of three arrays. -/
def mixed (A : FVec Ideal S16384x1024 .f32) (B : FVec Ideal S16384x2048 .f32) (C : FVec Ideal S16384x1024 .f32) (G : FVec Ideal S4096 .f32)
    (s : Fin 16384) (k : Fin 4096) : EReal :=
  joined (fun j => A (ix2 s j)) (fun j => B (ix2 s j)) (fun j => C (ix2 s j)) (fun j => G (ix1 j)) k

/-- The whole result. -/
def result (A : FVec Ideal S16384x1024 .f32) (B : FVec Ideal S16384x2048 .f32) (C : FVec Ideal S16384x1024 .f32) (G : FVec Ideal S4096 .f32)
    (W : FVec Ideal S4096x4096 .f32) (X : FVec Ideal S16384x4096 .f32) : FVec Ideal S16384x4096 .f32 := fun i =>
  Ideal.ofBits .f32 0x3FB504F3#32 * X (ix2 (i 0) (i 1)) + ∑ k : Fin 4096, mixed A B C G (i 0) k * W (ix2 k (i 1))

/-- The weight cut into slabs of 512 columns. -/
def slabs (W : FVec Ideal S4096x4096 .f32) : FVec Ideal S8x4096x512 .bf16 :=
  truncf .bf16 (transpose S8x4096x512 [1, 0, 2] (shapeCast S4096x8x512 W shapeCasts_S4096x4096_S4096x8x512) transposes_S4096x8x512_S8x4096x512_1_0_2) bitsLt_bf16_f32

theorem slabs_apply (W : FVec Ideal S4096x4096 .f32) (j : Fin 8) (k : Fin 4096) (n : Fin 512) :
    slabs W (ix3 j k n) = W (ix2 k ⟨j.val * 512 + n.val, by omega⟩) := by
  pointwise [slabs]

/-- A vector as one row. -/
def asRow (G : FVec Ideal S4096 .f32) : FVec Ideal S1x4096 .f32 := shapeCast S1x4096 G shapeCasts_S4096_S1x4096

theorem asRow_apply (G : FVec Ideal S4096 .f32) (d : Fin 4096) : asRow G (ix2 0 d) = G (ix1 d) := by
  pointwise [asRow]

theorem zeros2 : (![0, 0] : Fin 2 → ℕ) = fun _ => 0 := by funext a; fin_cases a <;> rfl
theorem zeros3 : (![0, 0, 0] : Fin 3 → ℕ) = fun _ => 0 := by funext a; fin_cases a <;> rfl

/-! ## The rows of a block -/

/-- A stored piece of 1024 columns. -/
theorem pay_narrow (x : FVec Ideal S256x1024 .bf16) (g : FVec Ideal S1x1024 .f32) (r : Fin 256) (k : Fin 1024) :
    k0_pay3 (F := Ideal) x g (ix2 r k) = x (ix2 r k) * scale 0x44800000#32 (fun j => x (ix2 r j)) * g (ix2 0 k) := by
  unfold scale
  pointwise [k0_pay3]

/-- A stored piece of 2048 columns. -/
theorem pay_wide (x : FVec Ideal S256x2048 .bf16) (g : FVec Ideal S1x2048 .f32) (r : Fin 256) (k : Fin 2048) :
    k0_pay9 (F := Ideal) x g (ix2 r k) = x (ix2 r k) * scale 0x45000000#32 (fun j => x (ix2 r j)) * g (ix2 0 k) := by
  unfold scale
  pointwise [k0_pay9]

/-- The product added to the scaled residual. -/
theorem pay_apply (y : FVec Ideal S1024x512 .f32) (h : FVec Ideal S1024x4096 .bf16) (w : FVec Ideal S1x4096x512 .bf16) (r : Fin 1024) (n : Fin 512) :
    k0_pay2 (F := Ideal) y h w (ix2 r n) = Ideal.ofBits .f32 0x3FB504F3#32 * y (ix2 r n) + ∑ k : Fin 4096, h (ix2 r k) * w (ix3 0 k n) := by
  pointwise [k0_pay2]

section

variable (x0 : Vec Ideal S1024x1024 .bf16) (x1 : Vec Ideal S1024x2048 .bf16) (x2 : Vec Ideal S1024x1024 .bf16) (x3 : Vec Ideal S1x4096 .f32)

/-- The joined rows of a block. -/
def rows : FVec Ideal S1024x4096 .bf16 := fun y =>
  joined (fun j => x0 (ix2 (y 0) j)) (fun j => x1 (ix2 (y 0) j)) (fun j => x2 (ix2 (y 0) j)) (fun j => x3 (ix2 0 j)) (y 1)

/-- The pieces the first point of a row block stores, the last one first. -/
def pieces : List (View.Piece (Elt Ideal) S1024x4096 .bf16) :=
  [⟨Rect.unit (s := S1024x4096) ![768, 3072] S256x1024.size inb_S1024x4096_S256x1024_768_3072, k0_pay3 (View.ld x2 (Rect.unit (s := S1024x1024) ![768, 0] S256x1024.size inb_S1024x1024_S256x1024_768_0)) (View.ld x3 (Rect.unit (s := S1x4096) ![0, 3072] S1x1024.size inb_S1x4096_S1x1024_0_3072))⟩,
    ⟨Rect.unit (s := S1024x4096) ![768, 1024] S256x2048.size inb_S1024x4096_S256x2048_768_1024, k0_pay9 (View.ld x1 (Rect.unit (s := S1024x2048) ![768, 0] S256x2048.size inb_S1024x2048_S256x2048_768_0)) (View.ld x3 (Rect.unit (s := S1x4096) ![0, 1024] S1x2048.size inb_S1x4096_S1x2048_0_1024))⟩,
    ⟨Rect.unit (s := S1024x4096) ![768, 0] S256x1024.size inb_S1024x4096_S256x1024_768_0, k0_pay3 (View.ld x0 (Rect.unit (s := S1024x1024) ![768, 0] S256x1024.size inb_S1024x1024_S256x1024_768_0)) (View.ld x3 (Rect.unit (s := S1x4096) ![0, 0] S1x1024.size inb_S1x4096_S1x1024_0_0))⟩,
    ⟨Rect.unit (s := S1024x4096) ![512, 3072] S256x1024.size inb_S1024x4096_S256x1024_512_3072, k0_pay3 (View.ld x2 (Rect.unit (s := S1024x1024) ![512, 0] S256x1024.size inb_S1024x1024_S256x1024_512_0)) (View.ld x3 (Rect.unit (s := S1x4096) ![0, 3072] S1x1024.size inb_S1x4096_S1x1024_0_3072))⟩,
    ⟨Rect.unit (s := S1024x4096) ![512, 1024] S256x2048.size inb_S1024x4096_S256x2048_512_1024, k0_pay9 (View.ld x1 (Rect.unit (s := S1024x2048) ![512, 0] S256x2048.size inb_S1024x2048_S256x2048_512_0)) (View.ld x3 (Rect.unit (s := S1x4096) ![0, 1024] S1x2048.size inb_S1x4096_S1x2048_0_1024))⟩,
    ⟨Rect.unit (s := S1024x4096) ![512, 0] S256x1024.size inb_S1024x4096_S256x1024_512_0, k0_pay3 (View.ld x0 (Rect.unit (s := S1024x1024) ![512, 0] S256x1024.size inb_S1024x1024_S256x1024_512_0)) (View.ld x3 (Rect.unit (s := S1x4096) ![0, 0] S1x1024.size inb_S1x4096_S1x1024_0_0))⟩,
    ⟨Rect.unit (s := S1024x4096) ![256, 3072] S256x1024.size inb_S1024x4096_S256x1024_256_3072, k0_pay3 (View.ld x2 (Rect.unit (s := S1024x1024) ![256, 0] S256x1024.size inb_S1024x1024_S256x1024_256_0)) (View.ld x3 (Rect.unit (s := S1x4096) ![0, 3072] S1x1024.size inb_S1x4096_S1x1024_0_3072))⟩,
    ⟨Rect.unit (s := S1024x4096) ![256, 1024] S256x2048.size inb_S1024x4096_S256x2048_256_1024, k0_pay9 (View.ld x1 (Rect.unit (s := S1024x2048) ![256, 0] S256x2048.size inb_S1024x2048_S256x2048_256_0)) (View.ld x3 (Rect.unit (s := S1x4096) ![0, 1024] S1x2048.size inb_S1x4096_S1x2048_0_1024))⟩,
    ⟨Rect.unit (s := S1024x4096) ![256, 0] S256x1024.size inb_S1024x4096_S256x1024_256_0, k0_pay3 (View.ld x0 (Rect.unit (s := S1024x1024) ![256, 0] S256x1024.size inb_S1024x1024_S256x1024_256_0)) (View.ld x3 (Rect.unit (s := S1x4096) ![0, 0] S1x1024.size inb_S1x4096_S1x1024_0_0))⟩,
    ⟨Rect.unit (s := S1024x4096) ![0, 3072] S256x1024.size inb_S1024x4096_S256x1024_0_3072, k0_pay3 (View.ld x2 (Rect.unit (s := S1024x1024) ![0, 0] S256x1024.size inb_S1024x1024_S256x1024_0_0)) (View.ld x3 (Rect.unit (s := S1x4096) ![0, 3072] S1x1024.size inb_S1x4096_S1x1024_0_3072))⟩,
    ⟨Rect.unit (s := S1024x4096) ![0, 1024] S256x2048.size inb_S1024x4096_S256x2048_0_1024, k0_pay9 (View.ld x1 (Rect.unit (s := S1024x2048) ![0, 0] S256x2048.size inb_S1024x2048_S256x2048_0_0)) (View.ld x3 (Rect.unit (s := S1x4096) ![0, 1024] S1x2048.size inb_S1x4096_S1x2048_0_1024))⟩,
    ⟨Rect.unit (s := S1024x4096) ![0, 0] S256x1024.size inb_S1024x4096_S256x1024_0_0, k0_pay3 (View.ld x0 (Rect.unit (s := S1024x1024) ![0, 0] S256x1024.size inb_S1024x1024_S256x1024_0_0)) (View.ld x3 (Rect.unit (s := S1x4096) ![0, 0] S1x1024.size inb_S1x4096_S1x1024_0_0))⟩]

theorem ld_narrow (x : Vec Ideal S1024x1024 .bf16) (o : ℕ) (inb) (r : Fin 256) (k : Fin 1024) (h : o + r.val < 1024) :
    View.ld x (Rect.unit (s := S1024x1024) ![o, 0] S256x1024.size inb) (ix2 r k) = x (ix2 ⟨o + r.val, h⟩ k) := by
  refine congrArg x (funext fun a => Fin.ext ?_)
  match a with
  | ⟨0, _⟩ => show o + 1 * r.val = o + r.val; omega
  | ⟨1, _⟩ => show 0 + 1 * k.val = k.val; omega

theorem ld_wide (o : ℕ) (inb) (r : Fin 256) (k : Fin 2048) (h : o + r.val < 1024) :
    View.ld x1 (Rect.unit (s := S1024x2048) ![o, 0] S256x2048.size inb) (ix2 r k) = x1 (ix2 ⟨o + r.val, h⟩ k) := by
  refine congrArg x1 (funext fun a => Fin.ext ?_)
  match a with
  | ⟨0, _⟩ => show o + 1 * r.val = o + r.val; omega
  | ⟨1, _⟩ => show 0 + 1 * k.val = k.val; omega

theorem ld_gain (o n : ℕ) (inb : ∀ a, (![0, o] : Fin 2 → ℕ) a + (![1, n] : Fin 2 → ℕ) a ≤ S1x4096.size a) (k : Fin n) (h : o + k.val < 4096) :
    View.ld x3 (Rect.unit (s := S1x4096) ![0, o] ![1, n] inb) (ix2 0 k) = x3 (ix2 0 ⟨o + k.val, h⟩) := by
  refine congrArg x3 (funext fun a => Fin.ext ?_)
  match a with
  | ⟨0, _⟩ => show 0 + 1 * 0 = 0; omega
  | ⟨1, _⟩ => show o + 1 * k.val = o + k.val; omega

theorem first (o : ℕ) (inb) (inb') (inb'' : ∀ a, (![o, 0] : Fin 2 → ℕ) a + S256x1024.size a ≤ S1024x4096.size a) (ho : o ≤ 768) (x : S256x1024.Idx) :
    k0_pay3 (F := Ideal) (View.ld x0 (Rect.unit (s := S1024x1024) ![o, 0] S256x1024.size inb)) (View.ld x3 (Rect.unit (s := S1x4096) ![0, 0] S1x1024.size inb')) x
      = rows x0 x1 x2 x3 ((Rect.unit (s := S1024x4096) ![o, 0] S256x1024.size inb'').emb x) := by
  obtain ⟨r, k, rfl⟩ : ∃ (r : Fin 256) (k : Fin 1024), x = ix2 r k := ⟨x 0, x 1, by funext a; fin_cases a <;> rfl⟩
  have e : (Rect.unit (s := S1024x4096) ![o, 0] S256x1024.size inb'').emb (ix2 r k) = ix2 ⟨o + r.val, by omega⟩ ⟨k.val, by omega⟩ := by
    funext a
    apply Fin.ext
    match a with
    | ⟨0, _⟩ => show o + 1 * r.val = o + r.val; omega
    | ⟨1, _⟩ => show 0 + 1 * k.val = k.val; omega
  rw [e]
  refine (pay_narrow _ _ r k).trans ?_
  have eg := ld_gain x3 0 1024 inb' k (by omega)
  simp only [ld_narrow x0 o inb r _ (by omega)]
  refine Eq.trans ?_ (joined_first _ _ _ _ ⟨k.val, by omega⟩ k.isLt).symm
  refine congrArg₂ (fun a b : EReal => a * b) rfl (eg.trans (congrArg (fun z => x3 (ix2 0 z)) (Fin.ext ?_)))
  show 0 + k.val = k.val
  omega

theorem second (o : ℕ) (inb) (inb') (inb'' : ∀ a, (![o, 1024] : Fin 2 → ℕ) a + S256x2048.size a ≤ S1024x4096.size a) (ho : o ≤ 768) (x : S256x2048.Idx) :
    k0_pay9 (F := Ideal) (View.ld x1 (Rect.unit (s := S1024x2048) ![o, 0] S256x2048.size inb)) (View.ld x3 (Rect.unit (s := S1x4096) ![0, 1024] S1x2048.size inb')) x
      = rows x0 x1 x2 x3 ((Rect.unit (s := S1024x4096) ![o, 1024] S256x2048.size inb'').emb x) := by
  obtain ⟨r, k, rfl⟩ : ∃ (r : Fin 256) (k : Fin 2048), x = ix2 r k := ⟨x 0, x 1, by funext a; fin_cases a <;> rfl⟩
  have e : (Rect.unit (s := S1024x4096) ![o, 1024] S256x2048.size inb'').emb (ix2 r k) = ix2 ⟨o + r.val, by omega⟩ ⟨1024 + k.val, by omega⟩ := by
    funext a
    apply Fin.ext
    match a with
    | ⟨0, _⟩ => show o + 1 * r.val = o + r.val; omega
    | ⟨1, _⟩ => show 1024 + 1 * k.val = 1024 + k.val; omega
  rw [e]
  refine (pay_wide _ _ r k).trans ?_
  have eg := ld_gain x3 1024 2048 inb' k (by omega)
  simp only [ld_wide x1 o inb r _ (by omega)]
  refine Eq.trans ?_ (joined_second _ _ _ _ ⟨1024 + k.val, by omega⟩ (by show ¬ 1024 + k.val < 1024; omega) (by show 1024 + k.val < 3072; omega)).symm
  refine congrArg₂ (fun a b : EReal => a * b) (congrArg₂ (fun a b : EReal => a * b) (congrArg (fun z => x1 (ix2 _ z)) (Fin.ext ?_)) rfl) eg
  show k.val = 1024 + k.val - 1024
  omega

theorem third (o : ℕ) (inb) (inb') (inb'' : ∀ a, (![o, 3072] : Fin 2 → ℕ) a + S256x1024.size a ≤ S1024x4096.size a) (ho : o ≤ 768) (x : S256x1024.Idx) :
    k0_pay3 (F := Ideal) (View.ld x2 (Rect.unit (s := S1024x1024) ![o, 0] S256x1024.size inb)) (View.ld x3 (Rect.unit (s := S1x4096) ![0, 3072] S1x1024.size inb')) x
      = rows x0 x1 x2 x3 ((Rect.unit (s := S1024x4096) ![o, 3072] S256x1024.size inb'').emb x) := by
  obtain ⟨r, k, rfl⟩ : ∃ (r : Fin 256) (k : Fin 1024), x = ix2 r k := ⟨x 0, x 1, by funext a; fin_cases a <;> rfl⟩
  have e : (Rect.unit (s := S1024x4096) ![o, 3072] S256x1024.size inb'').emb (ix2 r k) = ix2 ⟨o + r.val, by omega⟩ ⟨3072 + k.val, by omega⟩ := by
    funext a
    apply Fin.ext
    match a with
    | ⟨0, _⟩ => show o + 1 * r.val = o + r.val; omega
    | ⟨1, _⟩ => show 3072 + 1 * k.val = 3072 + k.val; omega
  rw [e]
  refine (pay_narrow _ _ r k).trans ?_
  have eg := ld_gain x3 3072 1024 inb' k (by omega)
  simp only [ld_narrow x2 o inb r _ (by omega)]
  refine Eq.trans ?_ (joined_third _ _ _ _ ⟨3072 + k.val, by omega⟩ (by show ¬ 3072 + k.val < 3072; omega)).symm
  refine congrArg₂ (fun a b : EReal => a * b) (congrArg₂ (fun a b : EReal => a * b) (congrArg (fun z => x2 (ix2 _ z)) (Fin.ext ?_)) rfl) eg
  show k.val = 3072 + k.val - 3072
  omega

theorem pieces_cover (y : S1024x4096.Idx) : ∃ p ∈ pieces x0 x1 x2 x3, y ∈ p.1.set :=
  View.cover_of_tiledBy (pieces x0 x1 x2 x3) ![256, 1024] (by sl_kernel_rfl) y

theorem pieces_rows : View.canon (pieces x0 x1 x2 x3) = rows x0 x1 x2 x3 := by
  funext y
  refine View.canon_apply_of_pieces (rows x0 x1 x2 x3) (pieces x0 x1 x2 x3) ?_ y (pieces_cover x0 x1 x2 x3 y)
  intro p hp x
  simp only [pieces, List.mem_cons, List.not_mem_nil, or_false] at hp
  rcases hp with rfl | rfl | rfl | rfl | rfl | rfl | rfl | rfl | rfl | rfl | rfl | rfl
  · exact third x0 x1 x2 x3 768 _ _ inb_S1024x4096_S256x1024_768_3072 (by omega) x
  · exact second x0 x1 x2 x3 768 _ _ inb_S1024x4096_S256x2048_768_1024 (by omega) x
  · exact first x0 x1 x2 x3 768 _ _ inb_S1024x4096_S256x1024_768_0 (by omega) x
  · exact third x0 x1 x2 x3 512 _ _ inb_S1024x4096_S256x1024_512_3072 (by omega) x
  · exact second x0 x1 x2 x3 512 _ _ inb_S1024x4096_S256x2048_512_1024 (by omega) x
  · exact first x0 x1 x2 x3 512 _ _ inb_S1024x4096_S256x1024_512_0 (by omega) x
  · exact third x0 x1 x2 x3 256 _ _ inb_S1024x4096_S256x1024_256_3072 (by omega) x
  · exact second x0 x1 x2 x3 256 _ _ inb_S1024x4096_S256x2048_256_1024 (by omega) x
  · exact first x0 x1 x2 x3 256 _ _ inb_S1024x4096_S256x1024_256_0 (by omega) x
  · exact third x0 x1 x2 x3 0 _ _ inb_S1024x4096_S256x1024_0_3072 (by omega) x
  · exact second x0 x1 x2 x3 0 _ _ inb_S1024x4096_S256x2048_0_1024 (by omega) x
  · exact first x0 x1 x2 x3 0 _ _ inb_S1024x4096_S256x1024_0_0 (by omega) x

end

section

variable (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1x4096 .f32) (harg5 : arg5.IsWhole) (arg6 : Memref sig .tc .vmem S1x4096x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x4096 .bf16) (harg9 : arg9.IsWhole)
    (x0 : Vec Ideal S1024x1024 .bf16) (x1 : Vec Ideal S1024x2048 .bf16) (x2 : Vec Ideal S1024x1024 .bf16) (x3 : Vec Ideal S1x4096 .f32)
    (x4 : Vec Ideal S1x4096x512 .bf16) (x5 : Vec Ideal S1024x512 .f32) (xs0 : Vec Ideal S1024x4096 .bf16)

theorem scratch_eq (hc0 : cond0_0 i) : sout0_A_0 (F := Ideal) c i arg2 harg2 arg3 harg3 arg4 harg4 arg5 harg5 arg6 harg6 arg7 harg7 arg8 harg8 arg9 harg9 hc0 x0 x1 x2 x3 x4 x5 = rows x0 x1 x2 x3 := by
  refine Eq.trans ?_ (pieces_rows x0 x1 x2 x3)
  frame_out
  refine congrArg View.canon ?_
  rfl

theorem outA_eq (hc0 : cond0_0 i) : out0_A_6 (F := Ideal) c i arg2 harg2 arg3 harg3 arg4 harg4 arg5 harg5 arg6 harg6 arg7 harg7 arg8 harg8 arg9 harg9 hc0 x0 x1 x2 x3 x4 x5 = k0_pay2 (F := Ideal) x5 (rows x0 x1 x2 x3) x4 := by
  frame_out
  refine congrArg (fun z => k0_pay2 (F := Ideal) x5 z x4) (Eq.trans ?_ (pieces_rows x0 x1 x2 x3))
  show View.readCov (Val := Elt Ideal) arg9.view (pieces x0 x1 x2 x3) (Rect.unit (s := S1024x4096) ![0, 0] S1024x4096.size inb_S1024x4096_S1024x4096_0_0).toLoadRect = _
  rw [View.readCov_eq_canon_ld _ _ _ (pieces_cover x0 x1 x2 x3), View.ld_unit_zero zeros2]

theorem outB_eq (hc0 : ¬cond0_0 i) : out0_B_6 (F := Ideal) c i arg2 harg2 arg3 harg3 arg4 harg4 arg5 harg5 arg6 harg6 arg7 harg7 arg8 harg8 arg9 harg9 hc0 x0 x1 x2 x3 x4 x5 xs0 = k0_pay2 (F := Ideal) x5 xs0 x4 := by
  frame_out

end

variable (m : (ℓ : Loc nD τ sig) → Buf (Elt Ideal) ℓ) (c : Dev nD)

/-- An array in the narrow format. -/
def narrowed (s : Shape) (A : FVec Ideal s .f32) : FVec Ideal s .bf16 := truncf .bf16 A bitsLt_bf16_f32

theorem a_eq : V m c main_v0 = narrowed S16384x1024 (m (c.tc.loc main_arg0)) := by
  unfold V
  simp only [hostOps0, List.flatten_cons, List.flatten_nil, List.cons_append, List.nil_append, List.append_nil]
  after_results_simp
  rfl

theorem b_eq : V m c main_v1 = narrowed S16384x2048 (m (c.tc.loc main_arg1)) := by
  unfold V
  simp only [hostOps0, List.flatten_cons, List.flatten_nil, List.cons_append, List.nil_append, List.append_nil]
  after_results_simp
  rfl

theorem c_eq : V m c main_v2 = narrowed S16384x1024 (m (c.tc.loc main_arg2)) := by
  unfold V
  simp only [hostOps0, List.flatten_cons, List.flatten_nil, List.cons_append, List.nil_append, List.append_nil]
  after_results_simp
  rfl

theorem weight_eq : V m c main_v5 = slabs (m (c.tc.loc main_arg4)) := by
  unfold V
  simp only [hostOps0, List.flatten_cons, List.flatten_nil, List.cons_append, List.nil_append, List.append_nil]
  after_results_simp
  rfl

theorem gain_eq : V m c main_v6 = asRow (m (c.tc.loc main_arg3)) := by
  unfold V
  simp only [hostOps0, List.flatten_cons, List.flatten_nil, List.cons_append, List.nil_append, List.append_nil]
  after_results_simp
  rfl

theorem residual_eq : V m c main_arg5 = m (c.tc.loc main_arg5) := by
  unfold V
  simp only [hostOps0, List.flatten_cons, List.flatten_nil, List.cons_append, List.nil_append, List.append_nil]
  after_results_simp

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val % 8 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val / 8 ∧ win0_5.index t (1 : Fin 2) = t.val % 8 :=
  (by decide +kernel : ∀ t : Fin grid0.N, _)
theorem idx6 : ∀ t : Fin cfg0.N, win0_6.index t (0 : Fin 2) = t.val / 8 ∧ win0_6.index t (1 : Fin 2) = t.val % 8 :=
  (by decide +kernel : ∀ t : Fin grid0.N, _)

theorem lt_N (t : Fin cfg0.N) : t.val < 128 := lt_of_lt_of_eq t.isLt (show cfg0.N = 128 from N_0)

/-- Row `r` of row block `q`. -/
def rowAt (q : ℕ) (hq : q < 16) (r : Fin 1024) : Fin 16384 := ⟨q * 1024 + r.val, by omega⟩

/-- Column `n` of column tile `q`. -/
def colAt (q : ℕ) (hq : q < 8) (n : Fin 512) : Fin 4096 := ⟨q * 512 + n.val, by omega⟩

theorem blk0 (t : Fin cfg0.N) (r : Fin 1024) (k : Fin 1024) :
    iblk m c 0 t (ix2 r k) = (m (c.tc.loc main_arg0) : FVec Ideal S16384x1024 .f32) (ix2 (rowAt (t.val / 8) (by have := lt_N t; omega) r) k) := by
  obtain ⟨e0, e1⟩ := idx0 t
  refine Eq.trans ?_ (congrFun (a_eq m c) _)
  refine congrArg (V m c main_v0) (funext fun i => Fin.ext ?_)
  match i with
  | ⟨0, _⟩ => show win0_0.index t (0 : Fin 2) * 1024 + 1 * r.val = t.val / 8 * 1024 + r.val; omega
  | ⟨1, _⟩ => show win0_0.index t (1 : Fin 2) * 1024 + 1 * k.val = k.val; omega

theorem blk1 (t : Fin cfg0.N) (r : Fin 1024) (k : Fin 2048) :
    iblk m c 1 t (ix2 r k) = (m (c.tc.loc main_arg1) : FVec Ideal S16384x2048 .f32) (ix2 (rowAt (t.val / 8) (by have := lt_N t; omega) r) k) := by
  obtain ⟨e0, e1⟩ := idx1 t
  refine Eq.trans ?_ (congrFun (b_eq m c) _)
  refine congrArg (V m c main_v1) (funext fun i => Fin.ext ?_)
  match i with
  | ⟨0, _⟩ => show win0_1.index t (0 : Fin 2) * 1024 + 1 * r.val = t.val / 8 * 1024 + r.val; omega
  | ⟨1, _⟩ => show win0_1.index t (1 : Fin 2) * 2048 + 1 * k.val = k.val; omega

theorem blk2 (t : Fin cfg0.N) (r : Fin 1024) (k : Fin 1024) :
    iblk m c 2 t (ix2 r k) = (m (c.tc.loc main_arg2) : FVec Ideal S16384x1024 .f32) (ix2 (rowAt (t.val / 8) (by have := lt_N t; omega) r) k) := by
  obtain ⟨e0, e1⟩ := idx2 t
  refine Eq.trans ?_ (congrFun (c_eq m c) _)
  refine congrArg (V m c main_v2) (funext fun i => Fin.ext ?_)
  match i with
  | ⟨0, _⟩ => show win0_2.index t (0 : Fin 2) * 1024 + 1 * r.val = t.val / 8 * 1024 + r.val; omega
  | ⟨1, _⟩ => show win0_2.index t (1 : Fin 2) * 1024 + 1 * k.val = k.val; omega

theorem blk3 (t : Fin cfg0.N) (k : Fin 4096) : iblk m c 3 t (ix2 0 k) = (m (c.tc.loc main_arg3) : FVec Ideal S4096 .f32) (ix1 k) := by
  obtain ⟨e0, e1⟩ := idx3 t
  refine Eq.trans ?_ ((congrFun (gain_eq m c) _).trans (asRow_apply _ k))
  refine congrArg (V m c main_v6) (funext fun i => Fin.ext ?_)
  match i with
  | ⟨0, _⟩ => show win0_3.index t (0 : Fin 2) * 1 + 1 * 0 = 0; omega
  | ⟨1, _⟩ => show win0_3.index t (1 : Fin 2) * 4096 + 1 * k.val = k.val; omega

theorem blk4 (t : Fin cfg0.N) (k : Fin 4096) (n : Fin 512) :
    iblk m c 4 t (ix3 0 k n) = (m (c.tc.loc main_arg4) : FVec Ideal S4096x4096 .f32) (ix2 k (colAt (t.val % 8) (by omega) n)) := by
  obtain ⟨e0, e1, e2⟩ := idx4 t
  refine Eq.trans ?_ ((congrFun (weight_eq m c) _).trans (slabs_apply _ ⟨t.val % 8, by omega⟩ k n))
  refine congrArg (V m c main_v5) (funext fun i => Fin.ext ?_)
  match i with
  | ⟨0, _⟩ => show win0_4.index t (0 : Fin 3) * 1 + 1 * 0 = t.val % 8; omega
  | ⟨1, _⟩ => show win0_4.index t (1 : Fin 3) * 4096 + 1 * k.val = k.val; omega
  | ⟨2, _⟩ => show win0_4.index t (2 : Fin 3) * 512 + 1 * n.val = n.val; omega

theorem blk5 (t : Fin cfg0.N) (r : Fin 1024) (n : Fin 512) :
    iblk m c 5 t (ix2 r n) = (m (c.tc.loc main_arg5) : FVec Ideal S16384x4096 .f32) (ix2 (rowAt (t.val / 8) (by have := lt_N t; omega) r) (colAt (t.val % 8) (by omega) n)) := by
  obtain ⟨e0, e1⟩ := idx5 t
  refine Eq.trans ?_ (congrFun (residual_eq m c) _)
  refine congrArg (V m c main_arg5) (funext fun i => Fin.ext ?_)
  match i with
  | ⟨0, _⟩ => show win0_5.index t (0 : Fin 2) * 1024 + 1 * r.val = t.val / 8 * 1024 + r.val; omega
  | ⟨1, _⟩ => show win0_5.index t (1 : Fin 2) * 512 + 1 * n.val = t.val % 8 * 512 + n.val; omega

/-- The joined rows of row block `q`. -/
def held (q : ℕ) (hq : q < 16) : FVec Ideal S1024x4096 .bf16 := fun y =>
  mixed (m (c.tc.loc main_arg0)) (m (c.tc.loc main_arg1)) (m (c.tc.loc main_arg2)) (m (c.tc.loc main_arg3)) (rowAt q hq (y 0)) (y 1)

theorem rows_held (t : Fin cfg0.N) : rows (iblk m c 0 t) (iblk m c 1 t) (iblk m c 2 t) (iblk m c 3 t) = held m c (t.val / 8) (by have := lt_N t; omega) := by
  funext y
  obtain ⟨r, k, rfl⟩ : ∃ (r : Fin 1024) (k : Fin 4096), y = ix2 r k := ⟨y 0, y 1, by funext a; fin_cases a <;> rfl⟩
  show joined (fun j => iblk m c 0 t (ix2 r j)) (fun j => iblk m c 1 t (ix2 r j)) (fun j => iblk m c 2 t (ix2 r j)) (fun j => iblk m c 3 t (ix2 0 j)) k = _
  rw [show (fun j => iblk m c 0 t (ix2 r j)) = _ from funext fun j => blk0 m c t r j, show (fun j => iblk m c 1 t (ix2 r j)) = _ from funext fun j => blk1 m c t r j,
    show (fun j => iblk m c 2 t (ix2 r j)) = _ from funext fun j => blk2 m c t r j, show (fun j => iblk m c 3 t (ix2 0 j)) = _ from funext fun j => blk3 m c t j]
  rfl

/-- The rows kept between points are those of the point's row block. -/
theorem kept_rows : ∀ (n : ℕ) (hn : n < cfg0.N), (outsAt0 m c n hn).2 = held m c (n / 8) (by have := lt_N ⟨n, hn⟩; simp only at this; omega)
  | 0, hn => by
    rw [outsAt0_A m c ⟨0, hn⟩ (Nat.zero_mod _)]
    dsimp only
    rw [scratch_eq]
    exact rows_held m c ⟨0, hn⟩
  | n + 1, hn => by
    by_cases h0 : (n + 1) % 8 = 0
    · rw [outsAt0_A m c ⟨n + 1, hn⟩ h0]
      dsimp only
      rw [scratch_eq]
      exact rows_held m c ⟨n + 1, hn⟩
    · rw [outsAt0_B m c ⟨n + 1, hn⟩ h0]
      refine (kept_rows n (by omega)).trans ?_
      have e : n / 8 = (n + 1) / 8 := by omega
      congr 1

/-- What a point writes back is its block of the whole result. -/
theorem flushed_eq (t : Fin cfg0.N) : (dats m 0 c).flushed 6 t = ((cfg0.win 6).blk t).view.read (Elt Ideal)
    (result (m (c.tc.loc main_arg0)) (m (c.tc.loc main_arg1)) (m (c.tc.loc main_arg2)) (m (c.tc.loc main_arg3)) (m (c.tc.loc main_arg4)) (m (c.tc.loc main_arg5))) := by
  have hk : (dats m 0 c).flushed 6 t = (cfg0.win 6).cut (grid0.coords t) (k0_pay2 (F := Ideal) (iblk m c 5 t) (held m c (t.val / 8) (by have := lt_N t; omega)) (iblk m c 4 t)) := by
    by_cases h0 : t.val % 8 = 0
    · rw [flushed6_A m c t h0, outA_eq, rows_held]
    · rw [flushed6_B m c t h0, outB_eq, kept_rows m c (t.val - 1)]
      have e : (t.val - 1) / 8 = t.val / 8 := by omega
      congr 3
  rw [hk]
  funext y
  obtain ⟨r, n, rfl⟩ : ∃ (r : Fin 1024) (n : Fin 512), y = ix2 r n := ⟨y 0, y 1, by funext a; fin_cases a <;> rfl⟩
  obtain ⟨e0, e1⟩ := idx6 t
  have e : ((cfg0.win 6).blk t).view.emb (ix2 r n) = ix2 (rowAt (t.val / 8) (by have := lt_N t; omega) r) (colAt (t.val % 8) (by omega) n) := by
    funext i
    apply Fin.ext
    match i with
    | ⟨0, _⟩ => show win0_6.index t (0 : Fin 2) * 1024 + 1 * r.val = t.val / 8 * 1024 + r.val; omega
    | ⟨1, _⟩ => show win0_6.index t (1 : Fin 2) * 512 + 1 * n.val = t.val % 8 * 512 + n.val; omega
  show k0_pay2 (F := Ideal) (iblk m c 5 t) (held m c (t.val / 8) _) (iblk m c 4 t) (ix2 r n) = result _ _ _ _ _ _ (((cfg0.win 6).blk t).view.emb (ix2 r n))
  rw [e]
  refine (pay_apply (iblk m c 5 t) _ (iblk m c 4 t) r n).trans ?_
  rw [blk5]
  refine congrArg₂ (fun a b : EReal => a + b) rfl (Finset.sum_congr (M := EReal) rfl fun k _ => ?_)
  rw [blk4]
  rfl

theorem covered (i : S16384x4096.Idx) : ∃ t : Fin cfg0.N, (cfg0.win 6).flush t = true ∧ i ∈ ((cfg0.win 6).blk t).view.set :=
  (covered_iff6 i).2 (by
    have h0 : (i 0).val < 16384 := (i 0).isLt
    have h1 : (i 1).val < 4096 := (i 1).isLt
    omega)

/-- The result array after the run. -/
theorem result_eq : (dats m 0 c).arrAt 6 cfg0.N
    = result (m (c.tc.loc main_arg0)) (m (c.tc.loc main_arg1)) (m (c.tc.loc main_arg2)) (m (c.tc.loc main_arg3)) (m (c.tc.loc main_arg4)) (m (c.tc.loc main_arg5)) :=
  (dats m 0 c).arrAt_eq_of_cover 6 _ (fun t _ => flushed_eq m c t) covered

end Cert.Kernel5Ideal.Step

namespace Cert.Reference5Ideal.Step

open Cert.Reference5Ideal Cert.Reference5Ideal.Gen Idealize.ShloMosaic Idealize.SL.Sem Idealize.ShloMosaic.TcCoe
open Cert.Rms (scale)
open Cert.Kernel5Ideal.Step (joined joined_first joined_second joined_third mixed result)

/-- A mixer's rows, each scaled by its reciprocal root mean square. -/
def narrowArr (A : FVec Ideal S16384x1024 .f32) : FVec Ideal S16384x1024 .f32 :=
  mulf A (broadcastInDim S16384x1024 ![0, 1] bcast_S16384x1_S16384x1024_0_1 (Host.rsqrt (addf (Host.divf (broadcastInDim S16384x1 ![0] bcast_S16384_S16384x1_0
    (Host.reduceAdd (mulf A A) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))))

/-- The same of the mixer of 2048 columns. -/
def wideArr (A : FVec Ideal S16384x2048 .f32) : FVec Ideal S16384x2048 .f32 :=
  mulf A (broadcastInDim S16384x2048 ![0, 1] bcast_S16384x1_S16384x2048_0_1 (Host.rsqrt (addf (Host.divf (broadcastInDim S16384x1 ![0] bcast_S16384_S16384x1_0
    (Host.reduceAdd (mulf A A) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))

/-- The three side by side. -/
def sideArr (A : FVec Ideal S16384x1024 .f32) (B : FVec Ideal S16384x2048 .f32) (C : FVec Ideal S16384x1024 .f32) : FVec Ideal S16384x4096 .f32 :=
  concatenate S16384x4096 1 [⟨S16384x1024, A⟩, ⟨S16384x2048, B⟩, ⟨S16384x1024, C⟩] concatenates_S16384x1024_S16384x2048_S16384x1024_S16384x4096_d1

/-- The gains over the joined rows. -/
def gained (M : FVec Ideal S16384x4096 .f32) (G : FVec Ideal S4096 .f32) : FVec Ideal S16384x4096 .f32 :=
  mulf M (broadcastInDim S16384x4096 ![0, 1] bcast_S1x4096_S16384x4096_0_1 (broadcastInDim S1x4096 ![1] bcast_S4096_S1x4096_1 G))

/-- The product added to the scaled residual. -/
def summed (M : FVec Ideal S16384x4096 .f32) (W : FVec Ideal S4096x4096 .f32) (X : FVec Ideal S16384x4096 .f32) : FVec Ideal S16384x4096 .f32 :=
  addf (mulf (broadcastInDim S16384x4096 ![] bcast_S_S16384x4096 (constant S_ .f32 0x3FB504F3#32)) X)
    (Host.dotGeneral dot_S16384x4096_S4096x4096_S16384x4096_1_0_0_1_n_n none M W)

theorem narrowArr_apply (A : FVec Ideal S16384x1024 .f32) (s : Fin 16384) (k : Fin 1024) :
    narrowArr A (ix2 s k) = A (ix2 s k) * scale 0x44800000#32 (fun j => A (ix2 s j)) := by
  unfold scale
  pointwise [narrowArr]

theorem wideArr_apply (A : FVec Ideal S16384x2048 .f32) (s : Fin 16384) (k : Fin 2048) :
    wideArr A (ix2 s k) = A (ix2 s k) * scale 0x45000000#32 (fun j => A (ix2 s j)) := by
  unfold scale
  pointwise [wideArr]

theorem sideArr_apply (A : FVec Ideal S16384x1024 .f32) (B : FVec Ideal S16384x2048 .f32) (C : FVec Ideal S16384x1024 .f32) (s : Fin 16384) (k : Fin 4096) :
    sideArr A B C (ix2 s k) = if h : k.val < 1024 then A (ix2 s ⟨k.val, h⟩) else if h' : k.val < 3072 then B (ix2 s ⟨k.val - 1024, by omega⟩)
      else C (ix2 s ⟨k.val - 3072, by omega⟩) := by
  pointwise [sideArr]
  by_cases h : k.val < 1024
  · rw [dif_pos h, dif_pos h]
  · rw [dif_neg h, dif_neg h]
    by_cases h' : k.val < 3072
    · rw [dif_pos h', dif_pos (by omega)]
    · rw [dif_neg h', dif_neg (by omega)]
      exact congrArg (fun q : Fin 1024 => C (ix2 s q)) (Fin.ext (show k.val - 1024 - 2048 = k.val - 3072 by omega))

theorem gained_apply (M : FVec Ideal S16384x4096 .f32) (G : FVec Ideal S4096 .f32) (s : Fin 16384) (k : Fin 4096) :
    gained M G (ix2 s k) = M (ix2 s k) * G (ix1 k) := by
  pointwise [gained]

theorem summed_apply (M : FVec Ideal S16384x4096 .f32) (W : FVec Ideal S4096x4096 .f32) (X : FVec Ideal S16384x4096 .f32) (s : Fin 16384) (d : Fin 4096) :
    summed M W X (ix2 s d) = Ideal.ofBits .f32 0x3FB504F3#32 * X (ix2 s d) + ∑ k : Fin 4096, M (ix2 s k) * W (ix2 k d) := by
  pointwise [summed]

theorem mixed_eq (A : FVec Ideal S16384x1024 .f32) (B : FVec Ideal S16384x2048 .f32) (C : FVec Ideal S16384x1024 .f32) (G : FVec Ideal S4096 .f32)
    (s : Fin 16384) (k : Fin 4096) : gained (sideArr (narrowArr A) (wideArr B) (narrowArr C)) G (ix2 s k) = mixed A B C G s k := by
  rw [gained_apply, sideArr_apply]
  unfold mixed joined
  split_ifs
  · rw [narrowArr_apply]
  · rw [wideArr_apply]
  · rw [narrowArr_apply]

theorem summed_eq (A : FVec Ideal S16384x1024 .f32) (B : FVec Ideal S16384x2048 .f32) (C : FVec Ideal S16384x1024 .f32) (G : FVec Ideal S4096 .f32)
    (W : FVec Ideal S4096x4096 .f32) (X : FVec Ideal S16384x4096 .f32) :
    summed (gained (sideArr (narrowArr A) (wideArr B) (narrowArr C)) G) W X = result A B C G W X := by
  funext i
  obtain ⟨s, d, rfl⟩ : ∃ (s : Fin 16384) (d : Fin 4096), i = ix2 s d := ⟨i 0, i 1, by funext a; fin_cases a <;> rfl⟩
  rw [summed_apply]
  refine congrArg₂ (fun a b : EReal => a + b) rfl (Finset.sum_congr (M := EReal) rfl fun k _ => ?_)
  rw [mixed_eq]
  rfl

end Cert.Reference5Ideal.Step

end
-- ==== Proof.Stats.lean ====
/- The layer norm that also writes its rows' statistics: what the call leaves in its three result arrays, and the reference's terms. -/
module

public import Idealize.ShloMosaic.Lib.Pointwise
public import Idealize.ShloMosaic.Lib.Tactic.ValueTie
public import proofs.«01_k».proof.Proof.Gen.Kernel6Ideal.Value
public import proofs.«01_k».proof.Proof.Gen.Reference6Ideal.Run
public import proofs.«01_k».proof.Proof.Norm

@[expose] public section

set_option maxRecDepth 16384

noncomputable section

namespace Cert.Reference6Ideal.Stages

open Cert.Reference6Ideal Cert.Reference6Ideal.Gen Idealize.ShloMosaic Idealize.ShloMosaic.TcCoe Idealize.SL.Sem
open Cert.Norm (mean scale normed)
open Cert.Reference4Ideal.Stages (meanArr devArr scaleArr normArr)

/-- The norm in the narrow type. -/
def narrowArr (Y : FVec Ideal S16384x4096 .f32) (G B : FVec Ideal S4096 .f32) : FVec Ideal S16384x4096 .bf16 := truncf .bf16 (normArr Y G B) bitsLt_bf16_f32

/-- A column repeated over the lanes. -/
def lanes (M : FVec Ideal S16384x1 .f32) : FVec Ideal S16384x128 .f32 := broadcastInDim S16384x128 ![0, 1] bcast_S16384x1_S16384x128_0_1 M

theorem narrowArr_apply (Y : FVec Ideal S16384x4096 .f32) (G B : FVec Ideal S4096 .f32) (s : Fin 16384) (d : Fin 4096) :
    narrowArr Y G B (ix2 s d) = normed (fun k => Y (ix2 s k)) d (G (ix1 d)) (B (ix1 d)) :=
  Cert.Reference4Ideal.Stages.normArr_apply Y G B s d

theorem lanes_apply (M : FVec Ideal S16384x1 .f32) (s : Fin 16384) (l : Fin 128) : lanes M (ix2 s l) = M (ix2 s 0) := by
  pointwise [lanes]

theorem means_apply (Y : FVec Ideal S16384x4096 .f32) (s : Fin 16384) (l : Fin 128) : lanes (meanArr Y) (ix2 s l) = mean fun k => Y (ix2 s k) :=
  (lanes_apply _ s l).trans (Cert.Reference4Ideal.Stages.meanArr_apply Y s)

theorem scales_apply (Y : FVec Ideal S16384x4096 .f32) (s : Fin 16384) (l : Fin 128) :
    lanes (scaleArr (devArr Y (meanArr Y))) (ix2 s l) = scale fun k => Y (ix2 s k) - mean fun k => Y (ix2 s k) := by
  refine (lanes_apply _ s l).trans ((Cert.Reference4Ideal.Stages.scaleArr_apply _ s).trans (congrArg scale (funext fun k => ?_)))
  rw [Cert.Reference4Ideal.Stages.devArr_apply, Cert.Reference4Ideal.Stages.meanArr_apply]

end Cert.Reference6Ideal.Stages

namespace Cert.Kernel6Ideal.Step

open Cert.Kernel6Ideal Cert.Kernel6Ideal.Gen Cert.Kernel6Ideal.Value Idealize.ShloMosaic Idealize.SL.Sem Idealize.ShloMosaic.TcCoe
open Cert.Norm (mean scale normed)
open Cert.Kernel4Ideal.Step (zeros2 asRow asRow_apply)

theorem pay3_apply (y : FVec Ideal S256x4096 .f32) (g b : FVec Ideal S1x4096 .f32) (a : Fin 256) (d : Fin 4096) :
    k0_pay3 (F := Ideal) y g b (ix2 a d) = normed (fun k => y (ix2 a k)) d (g (ix2 0 d)) (b (ix2 0 d)) := by
  unfold normed scale mean
  pointwise [k0_pay3, k0_pay2, k0_pay1]

theorem pay4_apply (y : FVec Ideal S256x4096 .f32) (a : Fin 256) (l : Fin 128) : k0_pay4 (F := Ideal) y (ix2 a l) = mean fun k => y (ix2 a k) := by
  unfold mean
  pointwise [k0_pay4, k0_pay1]

theorem pay5_apply (y : FVec Ideal S256x4096 .f32) (a : Fin 256) (l : Fin 128) :
    k0_pay5 (F := Ideal) y (ix2 a l) = scale fun k => y (ix2 a k) - mean fun k => y (ix2 a k) := by
  unfold scale mean
  pointwise [k0_pay5, k0_pay2, k0_pay1]

theorem out3_eq (y : Vec Ideal S256x4096 .f32) (g b : Vec Ideal S1x4096 .f32) : out0_3 (F := Ideal) y g b = k0_pay3 (F := Ideal) y g b := by
  unfold out0_3
  rw [View.canon_unit_zero zeros2, View.ld_unit_zero (S := S256x4096) zeros2, View.ld_unit_zero (S := S1x4096) zeros2, View.ld_unit_zero (S := S1x4096) zeros2]

theorem out4_eq (y : Vec Ideal S256x4096 .f32) (g b : Vec Ideal S1x4096 .f32) : out0_4 (F := Ideal) y g b = k0_pay4 (F := Ideal) y := by
  unfold out0_4
  rw [View.canon_unit_zero zeros2, View.ld_unit_zero (S := S256x4096) zeros2]

theorem out5_eq (y : Vec Ideal S256x4096 .f32) (g b : Vec Ideal S1x4096 .f32) : out0_5 (F := Ideal) y g b = k0_pay5 (F := Ideal) y := by
  unfold out0_5
  rw [View.canon_unit_zero zeros2, View.ld_unit_zero (S := S256x4096) zeros2]

variable (m : (ℓ : Loc nD τ sig) → Buf (Elt Ideal) ℓ) (c : Dev nD)

theorem rows_eq : V m c main_arg0 = m (c.tc.loc main_arg0) := by
  unfold V
  simp only [hostOps0, List.flatten_cons, List.flatten_nil, List.cons_append, List.nil_append, List.append_nil]
  after_results_simp

theorem gain_eq : V m c main_v0 = asRow (m (c.tc.loc main_arg1)) := by
  unfold V asRow
  simp only [hostOps0, List.flatten_cons, List.flatten_nil, List.cons_append, List.nil_append, List.append_nil]
  after_results_simp
  rfl

theorem bias_eq : V m c main_v1 = asRow (m (c.tc.loc main_arg2)) := by
  unfold V asRow
  simp only [hostOps0, List.flatten_cons, List.flatten_nil, List.cons_append, List.nil_append, List.append_nil]
  after_results_simp
  rfl

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem lt_N (t : Fin cfg0.N) : t.val < 64 := lt_of_lt_of_eq t.isLt (show cfg0.N = 64 from N_0)

/-- Row `a` of a point's block. -/
def row (t : Fin cfg0.N) (a : Fin 256) : Fin 16384 := ⟨t.val * 256 + a.val, by have := lt_N t; omega⟩

theorem blk0 (t : Fin cfg0.N) (a : Fin 256) (k : Fin 4096) : iblk m c 0 t (ix2 a k) = (m (c.tc.loc main_arg0) : FVec Ideal S16384x4096 .f32) (ix2 (row t a) k) := by
  obtain ⟨e0, e1⟩ := idx0 t
  refine Eq.trans ?_ (congrFun (rows_eq m c) _)
  refine congrArg (V m c main_arg0) (funext fun i => Fin.ext ?_)
  match i with
  | ⟨0, _⟩ => show win0_0.index t (0 : Fin 2) * 256 + 1 * a.val = t.val * 256 + a.val; omega
  | ⟨1, _⟩ => show win0_0.index t (1 : Fin 2) * 4096 + 1 * k.val = k.val; omega

theorem blk1 (t : Fin cfg0.N) (d : Fin 4096) : iblk m c 1 t (ix2 0 d) = (m (c.tc.loc main_arg1) : FVec Ideal S4096 .f32) (ix1 d) := by
  obtain ⟨e0, e1⟩ := idx1 t
  refine Eq.trans ?_ ((congrFun (gain_eq m c) _).trans (asRow_apply _ d))
  refine congrArg (V m c main_v0) (funext fun i => Fin.ext ?_)
  match i with
  | ⟨0, _⟩ => show win0_1.index t (0 : Fin 2) * 1 + 1 * 0 = 0; omega
  | ⟨1, _⟩ => show win0_1.index t (1 : Fin 2) * 4096 + 1 * d.val = d.val; omega

theorem blk2 (t : Fin cfg0.N) (d : Fin 4096) : iblk m c 2 t (ix2 0 d) = (m (c.tc.loc main_arg2) : FVec Ideal S4096 .f32) (ix1 d) := by
  obtain ⟨e0, e1⟩ := idx2 t
  refine Eq.trans ?_ ((congrFun (bias_eq m c) _).trans (asRow_apply _ d))
  refine congrArg (V m c main_v1) (funext fun i => Fin.ext ?_)
  match i with
  | ⟨0, _⟩ => show win0_2.index t (0 : Fin 2) * 1 + 1 * 0 = 0; omega
  | ⟨1, _⟩ => show win0_2.index t (1 : Fin 2) * 4096 + 1 * d.val = d.val; omega

/-- The normed rows. -/
def norms (Y : FVec Ideal S16384x4096 .f32) (G B : FVec Ideal S4096 .f32) : FVec Ideal S16384x4096 .bf16 :=
  fun i => normed (fun k => Y (ix2 (i 0) k)) (i 1) (G (ix1 (i 1))) (B (ix1 (i 1)))

/-- The rows' means, on every lane. -/
def means (Y : FVec Ideal S16384x4096 .f32) : FVec Ideal S16384x128 .f32 := fun i => mean fun k => Y (ix2 (i 0) k)

/-- The rows' reciprocal roots, on every lane. -/
def scales (Y : FVec Ideal S16384x4096 .f32) : FVec Ideal S16384x128 .f32 := fun i => scale fun k => Y (ix2 (i 0) k) - mean fun k => Y (ix2 (i 0) k)

theorem emb3 (t : Fin cfg0.N) (a : Fin 256) (d : Fin 4096) : ((cfg0.win 3).blk t).view.emb (ix2 a d) = ix2 (row t a) d := by
  obtain ⟨e0, e1⟩ := idx3 t
  funext i
  apply Fin.ext
  match i with
  | ⟨0, _⟩ => show win0_3.index t (0 : Fin 2) * 256 + 1 * a.val = t.val * 256 + a.val; omega
  | ⟨1, _⟩ => show win0_3.index t (1 : Fin 2) * 4096 + 1 * d.val = d.val; omega

/-- What a point writes back is its block of the norms. -/
theorem flushed3_eq (t : Fin cfg0.N) : (dats m 0 c).flushed 3 t = ((cfg0.win 3).blk t).view.read (Elt Ideal) (norms (m (c.tc.loc main_arg0)) (m (c.tc.loc main_arg1)) (m (c.tc.loc main_arg2))) := by
  rw [flushed3]
  funext y
  obtain ⟨a, d, rfl⟩ : ∃ (a : Fin 256) (d : Fin 4096), y = ix2 a d := ⟨y 0, y 1, by funext a; fin_cases a <;> rfl⟩
  show out0_3 (F := Ideal) (iblk m c 0 t) (iblk m c 1 t) (iblk m c 2 t) (ix2 a d) = norms _ _ _ (((cfg0.win 3).blk t).view.emb (ix2 a d))
  rw [out3_eq, emb3]
  refine (pay3_apply (iblk m c 0 t) (iblk m c 1 t) (iblk m c 2 t) a d).trans ?_
  rw [blk1, blk2]
  exact congrArg (fun r => normed r d _ _) (funext fun k => blk0 m c t a k)

theorem covered3 (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 64 := N_0
  let t : Fin cfg0.N := ⟨(i 0).val / 256, by rw [hN]; omega⟩
  have ht : t.val = (i 0).val / 256 := rfl
  obtain ⟨e0, e1⟩ := idx3 t
  refine ⟨t, flush0_3 t, ?_⟩
  show i ∈ ((View.whole main_v2_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

theorem norms_eq : (dats m 0 c).arrAt 3 cfg0.N = norms (m (c.tc.loc main_arg0)) (m (c.tc.loc main_arg1)) (m (c.tc.loc main_arg2)) :=
  (dats m 0 c).arrAt_eq_of_cover 3 _ (fun t _ => flushed3_eq m c t) covered3

theorem emb4 (t : Fin cfg0.N) (a : Fin 256) (d : Fin 128) : ((cfg0.win 4).blk t).view.emb (ix2 a d) = ix2 (row t a) d := by
  obtain ⟨e0, e1⟩ := idx4 t
  funext i
  apply Fin.ext
  match i with
  | ⟨0, _⟩ => show win0_4.index t (0 : Fin 2) * 256 + 1 * a.val = t.val * 256 + a.val; omega
  | ⟨1, _⟩ => show win0_4.index t (1 : Fin 2) * 128 + 1 * d.val = d.val; omega

/-- What a point writes back is its block of the means. -/
theorem flushed4_eq (t : Fin cfg0.N) : (dats m 0 c).flushed 4 t = ((cfg0.win 4).blk t).view.read (Elt Ideal) (means (m (c.tc.loc main_arg0))) := by
  rw [flushed4]
  funext y
  obtain ⟨a, d, rfl⟩ : ∃ (a : Fin 256) (d : Fin 128), y = ix2 a d := ⟨y 0, y 1, by funext a; fin_cases a <;> rfl⟩
  show out0_4 (F := Ideal) (iblk m c 0 t) (iblk m c 1 t) (iblk m c 2 t) (ix2 a d) = means _ (((cfg0.win 4).blk t).view.emb (ix2 a d))
  rw [out4_eq, emb4]
  exact (pay4_apply (iblk m c 0 t) a d).trans (congrArg mean (funext fun k => blk0 m c t a k))

theorem covered4 (i : S16384x128.Idx) : ∃ t : Fin cfg0.N, (cfg0.win 4).flush t = true ∧ i ∈ ((cfg0.win 4).blk t).view.set := by
  have h0 : (i 0).val < 16384 := (i 0).isLt
  have h1 : (i 1).val < 128 := (i 1).isLt
  have hN : cfg0.N = 64 := N_0
  let t : Fin cfg0.N := ⟨(i 0).val / 256, by rw [hN]; omega⟩
  have ht : t.val = (i 0).val / 256 := rfl
  obtain ⟨e0, e1⟩ := idx4 t
  refine ⟨t, flush0_4 t, ?_⟩
  show i ∈ ((View.whole main_v2_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 128 ≤ (i 1).val ∧ (i 1).val < win0_4.index t (1 : Fin 2) * 128 + 128; omega

theorem means_eq : (dats m 0 c).arrAt 4 cfg0.N = means (m (c.tc.loc main_arg0)) :=
  (dats m 0 c).arrAt_eq_of_cover 4 _ (fun t _ => flushed4_eq m c t) covered4

theorem emb5 (t : Fin cfg0.N) (a : Fin 256) (d : Fin 128) : ((cfg0.win 5).blk t).view.emb (ix2 a d) = ix2 (row t a) d := by
  obtain ⟨e0, e1⟩ := idx5 t
  funext i
  apply Fin.ext
  match i with
  | ⟨0, _⟩ => show win0_5.index t (0 : Fin 2) * 256 + 1 * a.val = t.val * 256 + a.val; omega
  | ⟨1, _⟩ => show win0_5.index t (1 : Fin 2) * 128 + 1 * d.val = d.val; omega

/-- What a point writes back is its block of the scales. -/
theorem flushed5_eq (t : Fin cfg0.N) : (dats m 0 c).flushed 5 t = ((cfg0.win 5).blk t).view.read (Elt Ideal) (scales (m (c.tc.loc main_arg0))) := by
  rw [flushed5]
  funext y
  obtain ⟨a, d, rfl⟩ : ∃ (a : Fin 256) (d : Fin 128), y = ix2 a d := ⟨y 0, y 1, by funext a; fin_cases a <;> rfl⟩
  show out0_5 (F := Ideal) (iblk m c 0 t) (iblk m c 1 t) (iblk m c 2 t) (ix2 a d) = scales _ (((cfg0.win 5).blk t).view.emb (ix2 a d))
  rw [out5_eq, emb5]
  exact (pay5_apply (iblk m c 0 t) a d).trans (congrArg (fun r : Fin 4096 → EReal => scale fun k => r k - mean r) (funext fun k => blk0 m c t a k))

theorem covered5 (i : S16384x128.Idx) : ∃ t : Fin cfg0.N, (cfg0.win 5).flush t = true ∧ i ∈ ((cfg0.win 5).blk t).view.set := by
  have h0 : (i 0).val < 16384 := (i 0).isLt
  have h1 : (i 1).val < 128 := (i 1).isLt
  have hN : cfg0.N = 64 := N_0
  let t : Fin cfg0.N := ⟨(i 0).val / 256, by rw [hN]; omega⟩
  have ht : t.val = (i 0).val / 256 := rfl
  obtain ⟨e0, e1⟩ := idx5 t
  refine ⟨t, flush0_5 t, ?_⟩
  show i ∈ ((View.whole main_v2_2).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

theorem scales_eq : (dats m 0 c).arrAt 5 cfg0.N = scales (m (c.tc.loc main_arg0)) :=
  (dats m 0 c).arrAt_eq_of_cover 5 _ (fun t _ => flushed5_eq m c t) covered5

open Cert.Reference4Ideal.Stages (meanArr devArr scaleArr)
open Cert.Reference6Ideal.Stages (narrowArr lanes)

theorem norms_agree (Y : FVec Ideal S16384x4096 .f32) (G B : FVec Ideal S4096 .f32) : narrowArr Y G B = norms Y G B := by
  funext i
  obtain ⟨s, d, rfl⟩ : ∃ (s : Fin 16384) (d : Fin 4096), i = ix2 s d := ⟨i 0, i 1, by funext a; fin_cases a <;> rfl⟩
  exact Cert.Reference6Ideal.Stages.narrowArr_apply Y G B s d

theorem means_agree (Y : FVec Ideal S16384x4096 .f32) : lanes (meanArr Y) = means Y := by
  funext i
  obtain ⟨s, l, rfl⟩ : ∃ (s : Fin 16384) (l : Fin 128), i = ix2 s l := ⟨i 0, i 1, by funext a; fin_cases a <;> rfl⟩
  exact Cert.Reference6Ideal.Stages.means_apply Y s l

theorem scales_agree (Y : FVec Ideal S16384x4096 .f32) : lanes (scaleArr (devArr Y (meanArr Y))) = scales Y := by
  funext i
  obtain ⟨s, l, rfl⟩ : ∃ (s : Fin 16384) (l : Fin 128), i = ix2 s l := ⟨i 0, i 1, by funext a; fin_cases a <;> rfl⟩
  exact Cert.Reference6Ideal.Stages.scales_apply Y s l

end Cert.Kernel6Ideal.Step

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Attention
public import proofs.«01_k».proof.Proof.GateUp
public import proofs.«01_k».proof.Proof.Norm
public import proofs.«01_k».proof.Proof.Down
public import proofs.«01_k».proof.Proof.OutProj
public import proofs.«01_k».proof.Proof.Stats
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_attention [Cert.Pre_finite_queries_and_keys.Facts] : algebraic_KernelIdeal_ReferenceIdeal_pre_finite_queries_and_keys := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  exact (h c).1.trans (Cert.KernelIdeal.Step.results_agree m c m' (hagree c) (hpre c))

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_gate_up : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2⟩ := hagree c
  refine (h c).1.trans ?_
  rw [h0, h1, h2, Cert.Kernel2Ideal.Step.result_eq m c]
  exact Cert.Reference2Ideal.Step.gated_eq _ _ _

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_down : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨h0, h1, h2, h3, h4⟩ := hagree c
  refine (h c).1.trans ?_
  rw [h0, h1, h2, h3, h4, Cert.Kernel3Ideal.Step.result_eq m c]
  exact Cert.Reference3Ideal.Step.summed_eq _ _ _ _ _

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_norm : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨h0, h1, h2⟩ := hagree c
  refine (h c).1.trans ?_
  rw [h0, h1, h2, Cert.Kernel4Ideal.Step.result_eq m c]
  exact Cert.Kernel4Ideal.Step.norm_eq _ _ _

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_out_proj : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨h0, h1, h2, h3, h4, h5⟩ := hagree c
  refine (h c).1.trans ?_
  rw [h0, h1, h2, h3, h4, h5, Cert.Kernel5Ideal.Step.result_eq m c]
  exact Cert.Reference5Ideal.Step.summed_eq _ _ _ _ _ _

theorem quiescent_Reference6Ideal : quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic_stats : algebraic_Kernel6Ideal_Reference6Ideal := by
  intro m ρ m' ρ' _ hagree
  refine ⟨_, _, _, Cert.Kernel6Ideal.Value.run_blocks (F := Ideal) m ρ, ?_⟩
  refine (θ_run Cert.Reference6Ideal.defs _ _).mono (fun _ h c => ⟨?_, ?_, ?_, (h c).2.2.2⟩) (Cert.Reference6Ideal.Value.run (F := Ideal) m' ρ')
  · obtain ⟨h0, h1, h2⟩ := hagree c
    refine (h c).1.trans ?_
    rw [h0, h1, h2, Cert.Kernel6Ideal.Step.norms_eq m c]
    exact Cert.Kernel6Ideal.Step.norms_agree _ _ _
  · obtain ⟨h0, -, -⟩ := hagree c
    refine (h c).2.1.trans ?_
    rw [h0, Cert.Kernel6Ideal.Step.means_eq m c]
    exact Cert.Kernel6Ideal.Step.means_agree _
  · obtain ⟨h0, -, -⟩ := hagree c
    refine (h c).2.2.1.trans ?_
    rw [h0, Cert.Kernel6Ideal.Step.scales_eq m c]
    exact Cert.Kernel6Ideal.Step.scales_agree _

theorem pre_facts : Cert.Pre_finite_queries_and_keys.Facts := ⟨by decide, by decide⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  (trivial : preserves_Kernel_KernelIdeal), @algebraic_attention pre_facts, (trivial : preserves_Kernel2_Kernel2Ideal), algebraic_gate_up,
  (trivial : preserves_Kernel3_Kernel3Ideal), algebraic_down, (trivial : preserves_Kernel4_Kernel4Ideal), algebraic_norm,
  (trivial : preserves_Kernel5_Kernel5Ideal), algebraic_out_proj,
  (trivial : preserves_Kernel6_Kernel6Ideal), algebraic_stats⟩

end Cert.Proof

end
